-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x64x64x256 : Shape := ⟨4, ![2, 64, 64, 256]⟩
abbrev S3x3x256x256 : Shape := ⟨4, ![3, 3, 256, 256]⟩
abbrev S256 : Shape := ⟨1, ![256]⟩
abbrev S1x1x256x36 : Shape := ⟨4, ![1, 1, 256, 36]⟩
abbrev S36 : Shape := ⟨1, ![36]⟩
abbrev S1x1x256x18 : Shape := ⟨4, ![1, 1, 256, 18]⟩
abbrev S18 : Shape := ⟨1, ![18]⟩
abbrev S_ : Shape := ⟨0, ![]⟩

class Facts : Prop where
  bcast_S_S2x64x64x256 : S_.BroadcastsInDim S2x64x64x256 (![] : Fin 0 → Fin S2x64x64x256.rank)
  reducesTo_S2x64x64x256_S_d0_1_2_3 : S2x64x64x256.ReducesTo [0, 1, 2, 3] S_
  h_S_ : 0 < S_.numel
  bcast_S_S3x3x256x256 : S_.BroadcastsInDim S3x3x256x256 (![] : Fin 0 → Fin S3x3x256x256.rank)
  reducesTo_S3x3x256x256_S_d0_1_2_3 : S3x3x256x256.ReducesTo [0, 1, 2, 3] S_
  bcast_S_S256 : S_.BroadcastsInDim S256 (![] : Fin 0 → Fin S256.rank)
  reducesTo_S256_S_d0 : S256.ReducesTo [0] S_
  bcast_S_S1x1x256x18 : S_.BroadcastsInDim S1x1x256x18 (![] : Fin 0 → Fin S1x1x256x18.rank)
  reducesTo_S1x1x256x18_S_d0_1_2_3 : S1x1x256x18.ReducesTo [0, 1, 2, 3] S_
  bcast_S_S18 : S_.BroadcastsInDim S18 (![] : Fin 0 → Fin S18.rank)
  reducesTo_S18_S_d0 : S18.ReducesTo [0] S_

variable [Facts]

def fn_part1 {F : FTy → Type} [FloatOps F] (main_arg4 : FVec F S256 .f32) (main_arg7 : FVec F S1x1x256x18 .f32) (main_arg8 : FVec F S18 .f32) (main_v13 : IVec S_ 1) (main_v16 : IVec S3x3x256x256 1) : IVec S_ 1 :=
  let main_c_5 : IVec S_ 1 := constantI S_ 1 1#1
  let main_v17 : IVec S_ 1 := (fun x v => Host.reduce IntOp.andi x v reducesTo_S3x3x256x256_S_d0_1_2_3 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S1x1x256x18 .f32 := Host.absf main_arg7
  let main_cst_8 : FVec F S_ .f32 := constant S_ .f32 0x7F800000#32
  let main_v25 : FVec F S1x1x256x18 .f32 := broadcastInDim S1x1x256x18 ![] bcast_S_S1x1x256x18 main_cst_8
  let main_v26 : IVec S1x1x256x18 1 := cmpf .olt main_v24 main_v25
  let main_c_9 : IVec S_ 1 := constantI S_ 1 1#1
  let main_v27 : IVec S_ 1 := (fun x v => Host.reduce IntOp.andi x v reducesTo_S1x1x256x18_S_d0_1_2_3 h_S_) main_v26 main_c_9
  let main_v28 : IVec S_ 1 := andi main_v23 main_v27
  let main_v29 : FVec F S18 .f32 := Host.absf main_arg8
  let main_cst_10 : FVec F S_ .f32 := constant S_ .f32 0x7F800000#32
  let main_v30 : FVec F S18 .f32 := broadcastInDim S18 ![] bcast_S_S18 main_cst_10
  let main_v31 : IVec S18 1 := cmpf .olt main_v29 main_v30
  let main_c_11 : IVec S_ 1 := constantI S_ 1 1#1
  let main_v32 : IVec S_ 1 := (fun x v => Host.reduce IntOp.andi x v reducesTo_S18_S_d0 h_S_) main_v31 main_c_11
  let main_v33 : IVec S_ 1 := andi main_v28 main_v32
  main_v33

def fn {F : FTy → Type} [FloatOps F] (main_arg0 : FVec F S2x64x64x256 .f32) (main_arg1 : FVec F S3x3x256x256 .f32) (main_arg2 : FVec F S256 .f32) (main_arg3 : FVec F S3x3x256x256 .f32) (main_arg4 : FVec F S256 .f32) (main_arg5 : FVec F S1x1x256x36 .f32) (main_arg6 : FVec F S36 .f32) (main_arg7 : FVec F S1x1x256x18 .f32) (main_arg8 : FVec F S18 .f32) : IVec S_ 1 :=
  let main_v0 : FVec F S2x64x64x256 .f32 := Host.absf main_arg0
  let main_cst : FVec F S_ .f32 := constant S_ .f32 0x7F800000#32
  let main_v1 : FVec F S2x64x64x256 .f32 := broadcastInDim S2x64x64x256 ![] bcast_S_S2x64x64x256 main_cst
  let main_v2 : IVec S2x64x64x256 1 := cmpf .olt main_v0 main_v1
  let main_c : IVec S_ 1 := constantI S_ 1 1#1
  let main_v3 : IVec S_ 1 := (fun x v => Host.reduce IntOp.andi x v reducesTo_S2x64x64x256_S_d0_1_2_3 h_S_) main_v2 main_c
  let main_v4 : FVec F S3x3x256x256 .f32 := Host.absf main_arg1
  let main_cst_0 : FVec F S_ .f32 := constant S_ .f32 0x7F800000#32
  let main_v5 : FVec F S3x3x256x256 .f32 := broadcastInDim S3x3x256x256 ![] bcast_S_S3x3x256x256 main_cst_0
  let main_v6 : IVec S3x3x256x256 1 := cmpf .olt main_v4 main_v5
  let main_c_1 : IVec S_ 1 := constantI S_ 1 1#1
  let main_v7 : IVec S_ 1 := (fun x v => Host.reduce IntOp.andi x v reducesTo_S3x3x256x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x3x256x256 .f32 := Host.absf main_arg3
  let main_cst_4 : FVec F S_ .f32 := constant S_ .f32 0x7F800000#32
  let main_v15 : FVec F S3x3x256x256 .f32 := broadcastInDim S3x3x256x256 ![] bcast_S_S3x3x256x256 main_cst_4
  let main_v16 : IVec S3x3x256x256 1 := cmpf .olt main_v14 main_v15
  fn_part1 (F := F) main_arg4 main_arg7 main_arg8 main_v13 main_v16
-- ==== Kernel.lean ====
abbrev S2x64x64x256 : Shape := ⟨4, ![2, 64, 64, 256]⟩
abbrev S3x3x256x256 : Shape := ⟨4, ![3, 3, 256, 256]⟩
abbrev S256 : Shape := ⟨1, ![256]⟩
abbrev S1x1x256x36 : Shape := ⟨4, ![1, 1, 256, 36]⟩
abbrev S36 : Shape := ⟨1, ![36]⟩
abbrev S1x1x256x18 : Shape := ⟨4, ![1, 1, 256, 18]⟩
abbrev S18 : Shape := ⟨1, ![18]⟩
abbrev S2x4096x256 : Shape := ⟨3, ![2, 4096, 256]⟩
abbrev S3x768x256 : Shape := ⟨3, ![3, 768, 256]⟩
abbrev S1x256 : Shape := ⟨2, ![1, 256]⟩
abbrev S256x36 : Shape := ⟨2, ![256, 36]⟩
abbrev S1x36 : Shape := ⟨2, ![1, 36]⟩
abbrev S256x18 : Shape := ⟨2, ![256, 18]⟩
abbrev S1x18 : Shape := ⟨2, ![1, 18]⟩
abbrev S2x4096x54 : Shape := ⟨3, ![2, 4096, 54]⟩
abbrev S1x4096x256 : Shape := ⟨3, ![1, 4096, 256]⟩
abbrev S1x4096x54 : Shape := ⟨3, ![1, 4096, 54]⟩
abbrev S4256x768 : Shape := ⟨2, ![4256, 768]⟩
abbrev S54x54 : Shape := ⟨2, ![54, 54]⟩
abbrev S256x54 : Shape := ⟨2, ![256, 54]⟩
abbrev S1x54 : Shape := ⟨2, ![1, 54]⟩
abbrev S80x256 : Shape := ⟨2, ![80, 256]⟩
abbrev S1x512x256 : Shape := ⟨3, ![1, 512, 256]⟩
abbrev S512x256 : Shape := ⟨2, ![512, 256]⟩
abbrev S640x1 : Shape := ⟨2, ![640, 1]⟩
abbrev S640x256 : Shape := ⟨2, ![640, 256]⟩
abbrev S512x768 : Shape := ⟨2, ![512, 768]⟩
abbrev S1x768x256 : Shape := ⟨3, ![1, 768, 256]⟩
abbrev S768x256 : Shape := ⟨2, ![768, 256]⟩
abbrev S512x1 : Shape := ⟨2, ![512, 1]⟩
abbrev S512x54 : Shape := ⟨2, ![512, 54]⟩
abbrev S1x512x54 : Shape := ⟨3, ![1, 512, 54]⟩
abbrev S2x64x64x9x6 : Shape := ⟨5, ![2, 64, 64, 9, 6]⟩

abbrev nBuf : Space → Nat
  | .hbm => 20
  | .vmem => 14
  | .smem => 0
  | _ => 0

abbrev bufTy : (tb : Table) → Fin (tcTables nBuf tb) → BufTy
  | .hbm, ⟨0, _⟩ => ⟨S2x64x64x256, .f32⟩
  | .hbm, ⟨1, _⟩ => ⟨S3x3x256x256, .f32⟩
  | .hbm, ⟨2, _⟩ => ⟨S256, .f32⟩
  | .hbm, ⟨3, _⟩ => ⟨S3x3x256x256, .f32⟩
  | .hbm, ⟨4, _⟩ => ⟨S256, .f32⟩
  | .hbm, ⟨5, _⟩ => ⟨S1x1x256x36, .f32⟩
  | .hbm, ⟨6, _⟩ => ⟨S36, .f32⟩
  | .hbm, ⟨7, _⟩ => ⟨S1x1x256x18, .f32⟩
  | .hbm, ⟨8, _⟩ => ⟨S18, .f32⟩
  | .hbm, ⟨9, _⟩ => ⟨S2x4096x256, .f32⟩
  | .hbm, ⟨10, _⟩ => ⟨S3x768x256, .f32⟩
  | .hbm, ⟨11, _⟩ => ⟨S3x768x256, .f32⟩
  | .hbm, ⟨12, _⟩ => ⟨S1x256, .f32⟩
  | .hbm, ⟨13, _⟩ => ⟨S1x256, .f32⟩
  | .hbm, ⟨14, _⟩ => ⟨S256x36, .f32⟩
  | .hbm, ⟨15, _⟩ => ⟨S1x36, .f32⟩
  | .hbm, ⟨16, _⟩ => ⟨S256x18, .f32⟩
  | .hbm, ⟨17, _⟩ => ⟨S1x18, .f32⟩
  | .hbm, ⟨18, _⟩ => ⟨S2x4096x54, .f32⟩
  | .hbm, ⟨19, _⟩ => ⟨S2x64x64x9x6, .f32⟩
  | .local _ .vmem, ⟨0, _⟩ => ⟨S1x4096x256, .f32⟩
  | .local _ .vmem, ⟨1, _⟩ => ⟨S1x4096x256, .f32⟩
  | .local _ .vmem, ⟨2, _⟩ => ⟨S3x768x256, .f32⟩
  | .local _ .vmem, ⟨3, _⟩ => ⟨S1x256, .f32⟩
  | .local _ .vmem, ⟨4, _⟩ => ⟨S3x768x256, .f32⟩
  | .local _ .vmem, ⟨5, _⟩ => ⟨S1x256, .f32⟩
  | .local _ .vmem, ⟨6, _⟩ => ⟨S256x36, .f32⟩
  | .local _ .vmem, ⟨7, _⟩ => ⟨S1x36, .f32⟩
  | .local _ .vmem, ⟨8, _⟩ => ⟨S256x18, .f32⟩
  | .local _ .vmem, ⟨9, _⟩ => ⟨S1x18, .f32⟩
  | .local _ .vmem, ⟨10, _⟩ => ⟨S1x4096x54, .f32⟩
  | .local _ .vmem, ⟨11, _⟩ => ⟨S1x4096x54, .f32⟩
  | .local _ .vmem, ⟨12, _⟩ => ⟨S4256x768, .bf16⟩
  | .local _ .vmem, ⟨13, _⟩ => ⟨S4256x768, .bf16⟩
  | _, _ => ⟨S2x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x18 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x18 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x4096x54 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x64x64x256 : Shape := ⟨4, ![2, 64, 64, 256]⟩
abbrev S3x3x256x256 : Shape := ⟨4, ![3, 3, 256, 256]⟩
abbrev S256 : Shape := ⟨1, ![256]⟩
abbrev S1x1x256x36 : Shape := ⟨4, ![1, 1, 256, 36]⟩
abbrev S36 : Shape := ⟨1, ![36]⟩
abbrev S1x1x256x18 : Shape := ⟨4, ![1, 1, 256, 18]⟩
abbrev S18 : Shape := ⟨1, ![18]⟩
abbrev S_ : Shape := ⟨0, ![]⟩
abbrev S2x66x66x256 : Shape := ⟨4, ![2, 66, 66, 256]⟩
abbrev S1x1x256x256 : Shape := ⟨4, ![1, 1, 256, 256]⟩
abbrev S256x256 : Shape := ⟨2, ![256, 256]⟩
abbrev S1x1x1x256 : Shape := ⟨4, ![1, 1, 1, 256]⟩
abbrev S256x36 : Shape := ⟨2, ![256, 36]⟩
abbrev S2x64x64x36 : Shape := ⟨4, ![2, 64, 64, 36]⟩
abbrev S1x1x1x36 : Shape := ⟨4, ![1, 1, 1, 36]⟩
abbrev S2x64x64x9x4 : Shape := ⟨5, ![2, 64, 64, 9, 4]⟩
abbrev S256x18 : Shape := ⟨2, ![256, 18]⟩
abbrev S2x64x64x18 : Shape := ⟨4, ![2, 64, 64, 18]⟩
abbrev S1x1x1x18 : Shape := ⟨4, ![1, 1, 1, 18]⟩
abbrev S2x64x64x9x2 : Shape := ⟨5, ![2, 64, 64, 9, 2]⟩
abbrev S2x64x64x9 : Shape := ⟨4, ![2, 64, 64, 9]⟩
abbrev S2x64x64x9x1 : Shape := ⟨5, ![2, 64, 64, 9, 1]⟩
abbrev S2x64x64x9x6 : Shape := ⟨5, ![2, 64, 64, 9, 6]⟩

abbrev nBuf : Space → Nat
  | .hbm => 148
  | .vmem => 0
  | .smem => 0
  | _ => 0

abbrev hbmTy0_0 (i : Nat) : BufTy := match i % 128 with
  | 0 => ⟨S2x64x64x256, .f32⟩
  | 1 => ⟨S3x3x256x256, .f32⟩
  | 2 => ⟨S256, .f32⟩
  | 3 => ⟨S3x3x256x256, .f32⟩
  | 4 => ⟨S256, .f32⟩
  | 5 => ⟨S1x1x256x36, .f32⟩
  | 6 => ⟨S36, .f32⟩
  | 7 => ⟨S1x1x256x18, .f32⟩
  | 8 => ⟨S18, .f32⟩
  | 9 => ⟨S_, .i32⟩
  | 10 => ⟨S_, .f32⟩
  | 11 => ⟨S2x66x66x256, .f32⟩
  | 12 => ⟨S_, .f32⟩
  | 13 => ⟨S2x64x64x256, .f32⟩
  | 14 => ⟨S2x64x64x256, .f32⟩
  | 15 => ⟨S1x1x256x256, .f32⟩
  | 16 => ⟨S256x256, .f32⟩
  | 17 => ⟨S2x64x64x256, .f32⟩
  | 18 => ⟨S2x64x64x256, .f32⟩
  | 19 => ⟨S2x64x64x256, .f32⟩
  | 20 => ⟨S1x1x256x256, .f32⟩
  | 21 => ⟨S256x256, .f32⟩
  | 22 => ⟨S2x64x64x256, .f32⟩
  | 23 => ⟨S2x64x64x256, .f32⟩
  | 24 => ⟨S2x64x64x256, .f32⟩
  | 25 => ⟨S1x1x256x256, .f32⟩
  | 26 => ⟨S256x256, .f32⟩
  | 27 => ⟨S2x64x64x256, .f32⟩
  | 28 => ⟨S2x64x64x256, .f32⟩
  | 29 => ⟨S2x64x64x256, .f32⟩
  | 30 => ⟨S1x1x256x256, .f32⟩
  | 31 => ⟨S256x256, .f32⟩
  | 32 => ⟨S2x64x64x256, .f32⟩
  | 33 => ⟨S2x64x64x256, .f32⟩
  | 34 => ⟨S2x64x64x256, .f32⟩
  | 35 => ⟨S1x1x256x256, .f32⟩
  | 36 => ⟨S256x256, .f32⟩
  | 37 => ⟨S2x64x64x256, .f32⟩
  | 38 => ⟨S2x64x64x256, .f32⟩
  | 39 => ⟨S2x64x64x256, .f32⟩
  | 40 => ⟨S1x1x256x256, .f32⟩
  | 41 => ⟨S256x256, .f32⟩
  | 42 => ⟨S2x64x64x256, .f32⟩
  | 43 => ⟨S2x64x64x256, .f32⟩
  | 44 => ⟨S2x64x64x256, .f32⟩
  | 45 => ⟨S1x1x256x256, .f32⟩
  | 46 => ⟨S256x256, .f32⟩
  | 47 => ⟨S2x64x64x256, .f32⟩
  | 48 => ⟨S2x64x64x256, .f32⟩
  | 49 => ⟨S2x64x64x256, .f32⟩
  | 50 => ⟨S1x1x256x256, .f32⟩
  | 51 => ⟨S256x256, .f32⟩
  | 52 => ⟨S2x64x64x256, .f32⟩
  | 53 => ⟨S2x64x64x256, .f32⟩
  | 54 => ⟨S2x64x64x256, .f32⟩
  | 55 => ⟨S1x1x256x256, .f32⟩
  | 56 => ⟨S256x256, .f32⟩
  | 57 => ⟨S2x64x64x256, .f32⟩
  | 58 => ⟨S2x64x64x256, .f32⟩
  | 59 => ⟨S1x1x1x256, .f32⟩
  | 60 => ⟨S2x64x64x256, .f32⟩
  | 61 => ⟨S2x64x64x256, .f32⟩
  | 62 => ⟨S_, .f32⟩
  | 63 => ⟨S2x64x64x256, .f32⟩
  | 64 => ⟨S2x64x64x256, .f32⟩
  | 65 => ⟨S_, .i32⟩
  | 66 => ⟨S_, .f32⟩
  | 67 => ⟨S2x66x66x256, .f32⟩
  | 68 => ⟨S_, .f32⟩
  | 69 => ⟨S2x64x64x256, .f32⟩
  | 70 => ⟨S2x64x64x256, .f32⟩
  | 71 => ⟨S1x1x256x256, .f32⟩
  | 72 => ⟨S256x256, .f32⟩
  | 73 => ⟨S2x64x64x256, .f32⟩
  | 74 => ⟨S2x64x64x256, .f32⟩
  | 75 => ⟨S2x64x64x256, .f32⟩
  | 76 => ⟨S1x1x256x256, .f32⟩
  | 77 => ⟨S256x256, .f32⟩
  | 78 => ⟨S2x64x64x256, .f32⟩
  | 79 => ⟨S2x64x64x256, .f32⟩
  | 80 => ⟨S2x64x64x256, .f32⟩
  | 81 => ⟨S1x1x256x256, .f32⟩
  | 82 => ⟨S256x256, .f32⟩
  | 83 => ⟨S2x64x64x256, .f32⟩
  | 84 => ⟨S2x64x64x256, .f32⟩
  | 85 => ⟨S2x64x64x256, .f32⟩
  | 86 => ⟨S1x1x256x256, .f32⟩
  | 87 => ⟨S256x256, .f32⟩
  | 88 => ⟨S2x64x64x256, .f32⟩
  | 89 => ⟨S2x64x64x256, .f32⟩
  | 90 => ⟨S2x64x64x256, .f32⟩
  | 91 => ⟨S1x1x256x256, .f32⟩
  | 92 => ⟨S256x256, .f32⟩
  | 93 => ⟨S2x64x64x256, .f32⟩
  | 94 => ⟨S2x64x64x256, .f32⟩
  | 95 => ⟨S2x64x64x256, .f32⟩
  | 96 => ⟨S1x1x256x256, .f32⟩
  | 97 => ⟨S256x256, .f32⟩
  | 98 => ⟨S2x64x64x256, .f32⟩
  | 99 => ⟨S2x64x64x256, .f32⟩
  | 100 => ⟨S2x64x64x256, .f32⟩
  | 101 => ⟨S1x1x256x256, .f32⟩
  | 102 => ⟨S256x256, .f32⟩
  | 103 => ⟨S2x64x64x256, .f32⟩
  | 104 => ⟨S2x64x64x256, .f32⟩
  | 105 => ⟨S2x64x64x256, .f32⟩
  | 106 => ⟨S1x1x256x256, .f32⟩
  | 107 => ⟨S256x256, .f32⟩
  | 108 => ⟨S2x64x64x256, .f32⟩
  | 109 => ⟨S2x64x64x256, .f32⟩
  | 110 => ⟨S2x64x64x256, .f32⟩
  | 111 => ⟨S1x1x256x256, .f32⟩
  | 112 => ⟨S256x256, .f32⟩
  | 113 => ⟨S2x64x64x256, .f32⟩
  | 114 => ⟨S2x64x64x256, .f32⟩
  | 115 => ⟨S1x1x1x256, .f32⟩
  | 116 => ⟨S2x64x64x256, .f32⟩
  | 117 => ⟨S2x64x64x256, .f32⟩
  | 118 => ⟨S_, .f32⟩
  | 119 => ⟨S2x64x64x256, .f32⟩
  | 120 => ⟨S2x64x64x256, .f32⟩
  | 121 => ⟨S256x36, .f32⟩
  | 122 => ⟨S2x64x64x36, .f32⟩
  | 123 => ⟨S1x1x1x36, .f32⟩
  | 124 => ⟨S2x64x64x36, .f32⟩
  | 125 => ⟨S2x64x64x36, .f32⟩
  | 126 => ⟨S2x64x64x9x4, .f32⟩
  | 127 => ⟨S256x18, .f32⟩
  | _ => ⟨S2x64x64x256, .f32⟩

abbrev hbmTy0_1 (i : Nat) : BufTy := match i % 128 with
  | 0 => ⟨S2x64x64x18, .f32⟩
  | 1 => ⟨S1x1x1x18, .f32⟩
  | 2 => ⟨S2x64x64x18, .f32⟩
  | 3 => ⟨S2x64x64x18, .f32⟩
  | 4 => ⟨S2x64x64x9x2, .f32⟩
  | 5 => ⟨S_, .f32⟩
  | 6 => ⟨S2x64x64x9, .f32⟩
  | 7 => ⟨S_, .f32⟩
  | 8 => ⟨S2x64x64x9, .f32⟩
  | 9 => ⟨S2x64x64x9, .f32⟩
  | 10 => ⟨S2x64x64x9x1, .f32⟩
  | 11 => ⟨S2x64x64x9x2, .f32⟩
  | 12 => ⟨S2x64x64x9x2, .f32⟩
  | 13 => ⟨S2x64x64x9x2, .f32⟩
  | 14 => ⟨S_, .f32⟩
  | 15 => ⟨S2x64x64x9, .f32⟩
  | 16 => ⟨S2x64x64x9x1, .f32⟩
  | 17 => ⟨S2x64x64x9x2, .f32⟩
  | 18 => ⟨S2x64x64x9x2, .f32⟩
  | 19 => ⟨S2x64x64x9x6, .f32⟩
  | _ => ⟨S2x64x64x256, .f32⟩

abbrev hbmTy (i : Nat) : BufTy := match i / 128 with
  | 0 => hbmTy0_0 i
  | 1 => hbmTy0_1 i
  | _ => ⟨S2x64x64x256, .f32⟩

abbrev bufTy : (tb : Table) → Fin (tcTables nBuf tb) → BufTy
  | .hbm, ⟨i, _⟩ => hbmTy i
  | _, _ => ⟨S2x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_call1_cst : Ref sig .tc := ⟨.hbm, 62, rfl⟩
abbrev main_call1_v0 : Ref sig .tc := ⟨.hbm, 63, rfl⟩
abbrev main_v50 : Ref sig .tc := ⟨.hbm, 64, rfl⟩
abbrev main_c_0 : Ref sig .tc := ⟨.hbm, 65, rfl⟩
abbrev main_call2_v0 : Ref sig .tc := ⟨.hbm, 66, rfl⟩
abbrev main_v51 : Ref sig .tc := ⟨.hbm, 67, rfl⟩
abbrev main_cst_1 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_call3_cst : Ref sig .tc := ⟨.hbm, 118, rfl⟩
abbrev main_call3_v0 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_2 : Ref sig .tc := ⟨.hbm, 133, rfl⟩
abbrev main_v114 : Ref sig .tc := ⟨.hbm, 134, rfl⟩
abbrev main_cst_3 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_4 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩

abbrev nD : Nat := 1
abbrev τ : Topo := Topo.v7x

variable {F : FTy → Type} [FloatOps F]
-- ==== Proof.RefConv.lean ====
module
public import proofs.«01_k».proof.Proof.Gen.ReferenceIdeal.Read
public import Idealize.ShloMosaic.Lib.Pointwise

@[expose] public section

noncomputable section

/-! The reference's convolution read as a plain sum over nine neighbours of a pixel. -/

namespace Cert.ReferenceIdeal.Own

open Cert.ReferenceIdeal Cert.ReferenceIdeal.Gen Cert.ReferenceIdeal.Read Idealize.ShloMosaic

/-- The pixels of image `b` in one row, and zeros after the last. -/
def pixels (x : Vec Ideal S2x64x64x256 .f32) (b : Fin 2) (p : Nat) (c : Fin 256) : EReal :=
  if h : p < 4096 then x (ix4 b ⟨p / 64, by omega⟩ ⟨p % 64, by omega⟩ c) else 0

/-- The picture with a border of zeros, at row `r` and column `s` of the larger picture. -/
def padded (f : Nat → Fin 256 → EReal) (r s : Nat) (c : Fin 256) : EReal :=
  if 1 ≤ r ∧ r ≤ 64 ∧ 1 ≤ s ∧ s ≤ 64 then f (64 * (r - 1) + (s - 1)) c else 0

/-- One of the nine products of a pixel's neighbours with the weights. -/
def tap (f : Nat → Fin 256 → EReal) (w : Vec Ideal S3x3x256x256 .f32) (i j : Fin 3) (y x : Nat) (c : Fin 256) : EReal :=
  ∑ k : Fin 256, padded f (y + i.val) (x + j.val) k * w (ix4 i j k c)

/-- The pad of the reference at an index. -/
theorem pad_apply (x0 : Vec Ideal S2x64x64x256 .f32) (b : Fin 2) (r s : Fin 66) (c : Fin 256) :
    val_main_v0 (F := Ideal) x0 (ix4 b r s c) = padded (pixels x0 b) r.val s.val c := by
  unfold val_main_v0 pad padded
  have hb := b.isLt
  have hc := c.isLt
  have hr := r.isLt
  have hs := s.isLt
  by_cases h : 1 ≤ r.val ∧ r.val ≤ 64 ∧ 1 ≤ s.val ∧ s.val ≤ 64
  · obtain ⟨h1, h2, h3, h4⟩ := h
    have hin : ∀ a : Fin S2x64x64x256.rank, (![0, 1, 1, 0] : Fin 4 → Nat) a ≤ ((ix4 b r s c : S2x66x66x256.Idx) a).val
        ∧ (((ix4 b r s c : S2x66x66x256.Idx) a).val - (![0, 1, 1, 0] : Fin 4 → Nat) a) % ((![0, 0, 0, 0] : Fin 4 → Nat) a + 1) = 0
        ∧ (((ix4 b r s c : S2x66x66x256.Idx) a).val - (![0, 1, 1, 0] : Fin 4 → Nat) a) / ((![0, 0, 0, 0] : Fin 4 → Nat) a + 1) < S2x64x64x256.size a := by
      intro a
      match a with
      | ⟨0, _⟩ => show 0 ≤ b.val ∧ (b.val - 0) % (0 + 1) = 0 ∧ (b.val - 0) / (0 + 1) < 2; omega
      | ⟨1, _⟩ => show 1 ≤ r.val ∧ (r.val - 1) % (0 + 1) = 0 ∧ (r.val - 1) / (0 + 1) < 64; omega
      | ⟨2, _⟩ => show 1 ≤ s.val ∧ (s.val - 1) % (0 + 1) = 0 ∧ (s.val - 1) / (0 + 1) < 64; omega
      | ⟨3, _⟩ => show 0 ≤ c.val ∧ (c.val - 0) % (0 + 1) = 0 ∧ (c.val - 0) / (0 + 1) < 256; omega
    rw [if_pos ⟨h1, h2, h3, h4⟩]
    refine (dif_pos hin).trans ?_
    unfold pixels
    rw [dif_pos (by omega)]
    refine congrArg x0 (funext fun a => Fin.ext ?_)
    match a with
    | ⟨0, _⟩ => show (b.val - 0) / (0 + 1) = b.val; omega
    | ⟨1, _⟩ => show (r.val - 1) / (0 + 1) = (64 * (r.val - 1) + (s.val - 1)) / 64; omega
    | ⟨2, _⟩ => show (s.val - 1) / (0 + 1) = (64 * (r.val - 1) + (s.val - 1)) % 64; omega
    | ⟨3, _⟩ => show (c.val - 0) / (0 + 1) = c.val; omega
  · rw [if_neg h]
    refine (dif_neg ?_).trans ?_
    rotate_left
    · show (((0#32 : BitVec 32).toInt : ℝ) : EReal) = 0
      norm_num
    · intro hin
      have a1 := hin ⟨1, by decide⟩
      have a2 := hin ⟨2, by decide⟩
      replace a1 : 1 ≤ r.val ∧ (r.val - 1) % (0 + 1) = 0 ∧ (r.val - 1) / (0 + 1) < 64 := a1
      replace a2 : 1 ≤ s.val ∧ (s.val - 1) % (0 + 1) = 0 ∧ (s.val - 1) / (0 + 1) < 64 := a2
      omega

/-- A product of the padded picture, moved by `(i, j)`, with the weights at `(i, j)`. -/
theorem dot_apply (x0 : Vec Ideal S2x64x64x256 .f32) (w : Vec Ideal S3x3x256x256 .f32) (i j : Fin 3) (hx hw)
    (b : Fin 2) (y x : Fin 64) (c : Fin 256) :
    Host.dotGeneral (F := Ideal) (φ₁ := .f32) (φ₂ := .f32) dot_S2x64x64x256_S256x256_S2x64x64x256_3_0_012_1_n_n none
      (extractStridedSlice S2x64x64x256 ![0, i.val, j.val, 0] (val_main_v0 (F := Ideal) x0) hx)
      (shapeCast S256x256 (extractStridedSlice S1x1x256x256 ![i.val, j.val, 0, 0] w hw) shapeCasts_S1x1x256x256_S256x256)
      (ix4 b y x c) = tap (pixels x0 b) w i j y.val x.val c := by
  unfold tap
  have hy := y.isLt
  have hx' := x.isLt
  simp only [Host.dotGeneral]
  rw [Ideal.dotGeneral_apply, ← Equiv.sum_comp (ValueIdx.contrEquiv1 dot_S2x64x64x256_S256x256_S2x64x64x256_3_0_012_1_n_n 256 rfl rfl).symm]
  refine Finset.sum_congr rfl fun k _ => ?_
  have hk := ValueIdx.contrEquiv1_symm_val dot_S2x64x64x256_S256x256_S2x64x64x256_3_0_012_1_n_n 256 rfl rfl k
  generalize (ValueIdx.contrEquiv1 dot_S2x64x64x256_S256x256_S2x64x64x256_3_0_012_1_n_n 256 rfl rfl).symm k = q at hk ⊢
  refine congrArg₂ (· * ·) ?_ ?_
  · rw [← pad_apply x0 b ⟨y.val + i.val, by omega⟩ ⟨x.val + j.val, by omega⟩ k]
    refine extractStridedSlice_apply _ _ _ _ _ fun a => ?_
    match a with
    | ⟨0, _⟩ => exact (lhs_main_v5_0 (ix4 b y x c) q).symm.trans (Nat.zero_add _).symm
    | ⟨1, _⟩ => exact (Nat.add_comm _ _).trans (congrArg (i.val + ·) (lhs_main_v5_1 (ix4 b y x c) q).symm)
    | ⟨2, _⟩ => exact (Nat.add_comm _ _).trans (congrArg (j.val + ·) (lhs_main_v5_2 (ix4 b y x c) q).symm)
    | ⟨3, _⟩ => exact (hk.symm.trans (lhs_main_v5_3 (ix4 b y x c) q).symm).trans (Nat.zero_add _).symm
  · refine (shapeCast_apply _ _ _ (ix4 0 0 k c) ?_).trans (extractStridedSlice_apply _ _ _ _ (ix4 i j k c) fun a => ?_)
    · rw [Shape.rowMajor_val_four, Shape.rowMajor_val_two]
      have e0 := (rhs_main_v5_0 (ix4 b y x c) q).trans hk
      have e1 := rhs_main_v5_1 (ix4 b y x c) q
      rw [e0, e1]
      show ((0 * 1 + 0) * 256 + k.val) * 256 + c.val = k.val * 256 + c.val
      omega
    · match a with
      | ⟨0, _⟩ => rfl
      | ⟨1, _⟩ => rfl
      | ⟨2, _⟩ => exact (Nat.zero_add _).symm
      | ⟨3, _⟩ => exact (Nat.zero_add _).symm

/-- The reference's layer of a picture: the nine products added from zero, the bias, the negative part cut off. -/
def layer (f : Nat → Fin 256 → EReal) (w : Vec Ideal S3x3x256x256 .f32) (b : Vec Ideal S256 .f32) (y x : Nat) (c : Fin 256) : EReal :=
  max ((0 + tap f w 0 0 y x c + tap f w 0 1 y x c + tap f w 0 2 y x c + tap f w 1 0 y x c + tap f w 1 1 y x c
    + tap f w 1 2 y x c + tap f w 2 0 y x c + tap f w 2 1 y x c + tap f w 2 2 y x c) + b (ix1 c)) 0

/-- The reference's first layer at an index. -/
theorem layer_apply (x0 : Vec Ideal S2x64x64x256 .f32) (w : Vec Ideal S3x3x256x256 .f32) (v : Vec Ideal S256 .f32)
    (b : Fin 2) (y x : Fin 64) (c : Fin 256) :
    val_main_v50 (F := Ideal) x0 w v (ix4 b y x c) = layer (pixels x0 b) w v y.val x.val c := by
  have hz : (FloatOps.ofBits (F := Ideal) .f32 0x00000000#32 : EReal) = 0 := Ideal.ofBits_zero_f32
  rw [val_main_v50_apply, val_main_v49_apply, val_main_v46_apply, val_main_v41_apply, val_main_v36_apply, val_main_v31_apply,
    val_main_v26_apply, val_main_v21_apply, val_main_v16_apply, val_main_v11_apply, val_main_v6_apply, val_main_v1_apply,
    val_main_cst_apply, val_main_v48_apply, val_main_v47_apply]
  have t (i j : Fin 3) (hx hw) := dot_apply x0 w i j hx hw b y x c
  unfold layer
  have s1 := congrArg₂ (· + ·) (congrArg₂ (· + ·) (congrArg₂ (· + ·) hz (t 0 0 (by decide) (by decide))) (t 0 1 (by decide) (by decide)))
    (t 0 2 (by decide) (by decide))
  have s2 := congrArg₂ (· + ·) (congrArg₂ (· + ·) (congrArg₂ (· + ·) s1 (t 1 0 (by decide) (by decide))) (t 1 1 (by decide) (by decide)))
    (t 1 2 (by decide) (by decide))
  have s3 := congrArg₂ (· + ·) (congrArg₂ (· + ·) (congrArg₂ (· + ·) s2 (t 2 0 (by decide) (by decide))) (t 2 1 (by decide) (by decide)))
    (t 2 2 (by decide) (by decide))
  refine congrArg₂ max (congrArg₂ (· + ·) s3 (congrArg v ?_)) hz
  funext a
  match a with
  | ⟨0, _⟩ => rfl

/-- The second layer is the first one's function again. -/
theorem layer_twice (x0 : Vec Ideal S2x64x64x256 .f32) (w : Vec Ideal S3x3x256x256 .f32) (v : Vec Ideal S256 .f32)
    (w' : Vec Ideal S3x3x256x256 .f32) (v' : Vec Ideal S256 .f32) :
    val_main_v101 (F := Ideal) x0 w v w' v' = val_main_v50 (F := Ideal) (val_main_v50 (F := Ideal) x0 w v) w' v' := rfl

end Cert.ReferenceIdeal.Own
-- ==== Proof.Taps.lean ====
module
public import proofs.«01_k».proof.Proof.Gen.KernelIdeal.Skeleton
public import Idealize.ShloMosaic.Lib.Pointwise
public import Idealize.ShloMosaic.Lib.ValueIdx
public import Idealize.ShloMosaic.Lib.Routing.Words

@[expose] public section

noncomputable section

/-! What one chunk of a convolution computes: three products over 768 channels, a bias and the larger of the sum and zero. -/

namespace Cert.KernelIdeal.Own

open Idealize.ShloMosaic Cert.KernelIdeal.Gen

/-- The row counter of one block of 512 rows. -/
abbrev rows512 : IVec S512x1 32 := iota .tc S512x1 32 [0] iota_S512x1_d0_w32

/-- The remainder by 64 as the kernel spells it: the signed remainder, corrected where its sign differs from the
    divisor's. -/
abbrev mod64 (x : BitVec 32) : BitVec 32 :=
  Scalar.select (IntOp.andi (IntOp.xori (IntOp.cmpi .slt (IntOp.remsi .vector x 64#32) 0#32) (0#1))
    (IntOp.cmpi .ne (IntOp.remsi .vector x 64#32) 0#32))
    (IntOp.addi (IntOp.remsi .vector x 64#32) 64#32) (IntOp.remsi .vector x 64#32)

/-- Of a number below 2³¹ it is the remainder of natural numbers. -/
theorem mod64_word (n : Nat) (h : n < 2 ^ 31) : mod64 (BitVec.ofNat 32 n) = BitVec.ofNat 32 (n % 64) := by
  have e : IntOp.remsi .vector (BitVec.ofNat 32 n) 64#32 = BitVec.ofNat 32 (n % 64) :=
    Routing.remsi_word .vector h (by norm_num) (by norm_num)
  unfold mod64
  rw [e]
  have hk : n % 64 < 64 := Nat.mod_lt _ (by norm_num)
  generalize n % 64 = k at hk
  clear e h
  revert k
  decide

/-- Two small numbers are equal as words exactly when they are equal. -/
theorem eq_word (a b : Nat) (ha : a < 64) (hb : b < 64) :
    IntOp.cmpi .eq (BitVec.ofNat 32 a) (BitVec.ofNat 32 b) = if a = b then 1#1 else 0#1 := by
  have : (BitVec.ofNat 32 a == BitVec.ofNat 32 b) = decide (a = b) := by
    rw [Bool.eq_iff_iff, beq_iff_eq, decide_eq_true_iff]
    constructor
    · intro h
      have := congrArg BitVec.toNat h
      simp only [BitVec.toNat_ofNat] at this
      omega
    · rintro rfl; rfl
  simp only [IntOp.cmpi, this]
  by_cases h : a = b <;> simp [h]

/-- The comparison both masks make: the row number's remainder by 64 against a small constant. -/
theorem mask_word (r m z : Nat) (hr : r < 1024) (hm : m % 64 = 0) (hm' : m < 8192) (hz : z < 64) :
    IntOp.cmpi .eq (mod64 (IntOp.addi (BitVec.ofNat 32 r) (BitVec.ofNat 32 m))) (BitVec.ofNat 32 z)
      = if r % 64 = z then 1#1 else 0#1 := by
  have e : IntOp.addi (BitVec.ofNat 32 r) (BitVec.ofNat 32 m) = BitVec.ofNat 32 (r + m) := (BitVec.ofNat_add r m).symm
  rw [e, mod64_word (r + m) (by omega), eq_word _ _ (by omega) hz, show (r + m) % 64 = r % 64 by omega]

/-- A selection on a decided bit. -/
theorem select_ite {α : Type} (p : Prop) [Decidable p] (a b : α) :
    Scalar.select (if p then 1#1 else 0#1) a b = if p then a else b := by
  by_cases h : p <;> simp [h, Scalar.select]

/-- The left tap of 512 rows: the loaded rows, and zero in the picture's first column. -/
theorem left_tap_apply (m : Nat) (hm : m % 64 = 0) (hm' : m < 8192) (v : Vec Ideal S512x256 .bf16) (r : Fin 512) (c : Fin 256) :
    k0_pay45 (F := Ideal) rows512 (BitVec.ofNat 32 m) v (ix2 r c) = if r.val % 64 = 0 then 0 else v (ix2 r c) := by
  unfold_payloads
  pointwise
  exact (congrArg (fun k => Scalar.select k (0 : EReal) (v (ix2 r c))) (mask_word r m 0 (by omega) hm hm' (by omega))).trans
    (select_ite _ _ _)

/-- The right tap of 512 rows: the loaded rows, and zero in the picture's last column. -/
theorem right_tap_apply (m : Nat) (hm : m % 64 = 0) (hm' : m < 8192) (v : Vec Ideal S512x256 .bf16) (r : Fin 512) (c : Fin 256) :
    k0_pay46 (F := Ideal) rows512 (BitVec.ofNat 32 m) v (ix2 r c) = if r.val % 64 = 63 then 0 else v (ix2 r c) := by
  unfold_payloads
  pointwise
  exact (congrArg (fun k => Scalar.select k (0 : EReal) (v (ix2 r c))) (mask_word r m 63 (by omega) hm hm' (by omega))).trans
    (select_ite _ _ _)

/-- The left tap of the first 640 rows. -/
theorem left_tap_first_apply (v : Vec Ideal S640x256 .bf16) (r : Fin 640) (c : Fin 256) :
    k0_pay24 (F := Ideal) k0_pay23 v (ix2 r c) = if r.val % 64 = 0 then 0 else v (ix2 r c) := by
  unfold_payloads
  pointwise
  exact (congrArg (fun k => Scalar.select k (0 : EReal) (v (ix2 r c))) (mask_word r 0 0 (by omega) rfl (by omega) (by omega))).trans
    (select_ite _ _ _)

/-- The right tap of the first 640 rows. -/
theorem right_tap_first_apply (v : Vec Ideal S640x256 .bf16) (r : Fin 640) (c : Fin 256) :
    k0_pay25 (F := Ideal) k0_pay23 v (ix2 r c) = if r.val % 64 = 63 then 0 else v (ix2 r c) := by
  unfold_payloads
  pointwise
  exact (congrArg (fun k => Scalar.select k (0 : EReal) (v (ix2 r c))) (mask_word r 0 63 (by omega) rfl (by omega) (by omega))).trans
    (select_ite _ _ _)

/-- A zero band holds zeros. -/
theorem zero_band_apply (r : Fin 80) (c : Fin 256) : k0_pay16 (F := Ideal) (ix2 r c) = 0 := by
  unfold_payloads
  pointwise

/-- A staged chunk of the image holds its pixels. -/
theorem stage_apply (v : Vec Ideal S1x512x256 .f32) (r : Fin 512) (c : Fin 256) :
    k0_pay21 (F := Ideal) v (ix2 r c) = v (ix3 0 r c) := by
  unfold_payloads
  pointwise

/-- One chunk of a 3×3 convolution: three matrix products, one for each row of the window, the bias, and zero where
    the sum is negative. -/
theorem conv_apply (w : Vec Ideal S3x768x256 .f32) (x0 x1 x2 : Vec Ideal S512x768 .bf16) (b : Vec Ideal S1x256 .f32)
    (r : Fin 512) (c : Fin 256) :
    k0_pay43 (F := Ideal) (k0_pay2 w) x0 x1 x2 b (ix2 r c)
      = max ((((∑ k : Fin 768, x0 (ix2 r k) * w (ix3 0 k c)) + ∑ k : Fin 768, x1 (ix2 r k) * w (ix3 1 k c))
          + ∑ k : Fin 768, x2 (ix2 r k) * w (ix3 2 k c)) + b (ix2 0 c)) 0 := by
  unfold_payloads
  pointwise

/-- The channels that hold a class score: the first two of every six. -/
theorem class_word : ∀ c : Fin 54,
    IntOp.cmpi .slt (Scalar.select (IntOp.andi (IntOp.xori (IntOp.cmpi .slt (IntOp.remsi .vector (BitVec.ofNat 32 c.val) 6#32) 0#32) 0#1)
      (IntOp.cmpi .ne (IntOp.remsi .vector (BitVec.ofNat 32 c.val) 6#32) 0#32))
      (IntOp.addi (IntOp.remsi .vector (BitVec.ofNat 32 c.val) 6#32) 6#32)
      (IntOp.remsi .vector (BitVec.ofNat 32 c.val) 6#32)) 2#32 = if c.val % 6 < 2 then 1#1 else 0#1 := by
  decide

/-- The head of one chunk: the product with the head weights, and the logistic function on the channels that hold a
    class score. -/
theorem head_apply (wc : FVec Ideal S256x54 .bf16) (bc : FVec Ideal S1x54 .f32) (h : FVec Ideal S512x256 .f32)
    (r : Fin 512) (c : Fin 54) (z : EReal) (hz : (∑ k : Fin 256, max (h (ix2 r k)) 0 * wc (ix2 k c)) + bc (ix2 0 c) = z) :
    k0_pay74 (F := Ideal) wc bc h (ix3 0 r c) = if c.val % 6 < 2 then Ideal.div 1 (1 + Ideal.exp (0 - z)) else z := by
  unfold_payloads
  pointwise
  rw [hz]
  exact (congrArg (fun k => Scalar.select k (Ideal.div 1 (1 + Ideal.exp (0 - z))) z) (class_word c)).trans (select_ite _ _ _)

/-- The sums of the second convolution before the rectifier. -/
theorem presum_apply (w : Vec Ideal S3x768x256 .f32) (x0 x1 x2 : Vec Ideal S512x768 .bf16) (b : Vec Ideal S1x256 .f32)
    (r : Fin 512) (c : Fin 256) :
    k0_pay73 (F := Ideal) (k0_pay3 w) x0 x1 x2 b (ix2 r c)
      = (((∑ k : Fin 768, x0 (ix2 r k) * w (ix3 0 k c)) + ∑ k : Fin 768, x1 (ix2 r k) * w (ix3 1 k c))
          + ∑ k : Fin 768, x2 (ix2 r k) * w (ix3 2 k c)) + b (ix2 0 c) := by
  unfold_payloads
  pointwise

end Cert.KernelIdeal.Own
-- ==== Proof.Buffer.lean ====
module
public import proofs.«01_k».proof.Proof.Taps
public import proofs.«01_k».proof.Proof.Gen.KernelIdeal.Frame.RunA
public import Idealize.ShloMosaic.Lib.Pipeline.ValueKit.Tiles

@[expose] public section

noncomputable section

/-! The tap buffer of the kernel, written piece by piece: where it is known, it holds rows of the padded picture. -/

namespace Cert.KernelIdeal.Own

open Idealize.ShloMosaic Cert.KernelIdeal.Gen

/-! ## What writes leave, where it is known -/

/-- The writes leave the value `G` at every place of `D`. -/
def Good {s : Shape} {e : EltTy} (G : s.Idx → Elt Ideal e) (D : s.Idx → Prop) (L : List (View.Piece (Elt Ideal) s e)) : Prop :=
  ∀ y, D y → View.canon L y = G y

/-- A write of values of `G` extends the places known by its rectangle. -/
theorem Good.cons {s : Shape} {e : EltTy} {G : s.Idx → Elt Ideal e} {D D' : s.Idx → Prop} {L : List (View.Piece (Elt Ideal) s e)}
    (h : Good G D L) (r : Rect s) (w : r.shape.Idx → Elt Ideal e) (hw : ∀ x, w x = G (r.emb x))
    (hD : ∀ y, D' y → y ∉ r.set → D y) : Good G D' (⟨r, w⟩ :: L) := by
  intro y hy
  by_cases hm : y ∈ r.set
  · obtain ⟨x, rfl⟩ : ∃ x, r.emb x = y := r.exists_idx_of_mem hm
    rw [View.canon_cons_emb, hw]
  · rw [View.canon_cons_of_not_mem _ _ hm]
    exact h y (hD y hy hm)

/-! ## The padded picture and its three taps -/

/-- The padded picture: eighty rows of zeros, the pixels, and zeros again. -/
def ctr (f : Nat → Fin 256 → EReal) (row : Nat) (c : Fin 256) : EReal :=
  if 80 ≤ row ∧ row < 4176 then f (row - 80) c else 0

/-- A row of the tap buffer: the pixel to the left, the pixel, the pixel to the right, each with its 256 channels, and
    zeros where there is no such neighbour in the row of the picture. -/
def band (f : Nat → Fin 256 → EReal) (row q : Nat) : EReal :=
  if q < 256 then (if row % 64 = 16 then 0 else ctr f (row - 1) ⟨q % 256, Nat.mod_lt _ (by norm_num)⟩)
  else if q < 512 then ctr f row ⟨q % 256, Nat.mod_lt _ (by norm_num)⟩
  else if row % 64 = 15 then 0 else ctr f (row + 1) ⟨q % 256, Nat.mod_lt _ (by norm_num)⟩

/-- The first 256 channels of a row: the pixel to the left. -/
theorem band_left (f : Nat → Fin 256 → EReal) (row : Nat) (c : Fin 256) :
    band f row c.val = if row % 64 = 16 then 0 else ctr f (row - 1) c := by
  have h : (⟨c.val % 256, Nat.mod_lt _ (by norm_num)⟩ : Fin 256) = c := Fin.ext (Nat.mod_eq_of_lt c.isLt)
  unfold band
  rw [if_pos c.isLt, h]

/-- The middle 256 channels of a row: the pixel itself. -/
theorem band_mid (f : Nat → Fin 256 → EReal) (row : Nat) (c : Fin 256) : band f row (256 + c.val) = ctr f row c := by
  have h : (⟨(256 + c.val) % 256, Nat.mod_lt _ (by norm_num)⟩ : Fin 256) = c := Fin.ext (by show (256 + c.val) % 256 = c.val; omega)
  unfold band
  rw [if_neg (by omega), if_pos (by omega), h]

/-- The last 256 channels of a row: the pixel to the right. -/
theorem band_right (f : Nat → Fin 256 → EReal) (row : Nat) (c : Fin 256) :
    band f row (512 + c.val) = if row % 64 = 15 then 0 else ctr f (row + 1) c := by
  have h : (⟨(512 + c.val) % 256, Nat.mod_lt _ (by norm_num)⟩ : Fin 256) = c := Fin.ext (by show (512 + c.val) % 256 = c.val; omega)
  unfold band
  rw [if_neg (by omega), if_neg (by omega), h]

/-- The tap buffer. -/
def tapBuf (f : Nat → Fin 256 → EReal) : S4256x768.Idx → Elt Ideal .bf16 := fun y => band f (y 0).val (y 1).val

/-- The places written: of the middle the zero bands and the rows below `n`, of the left the rows below `l`, of the right the
    rows below `r`. -/
def dom (n l r : Nat) (y : S4256x768.Idx) : Prop :=
  (256 ≤ (y 1).val ∧ (y 1).val < 512 ∧ ((y 0).val < n ∨ 4176 ≤ (y 0).val))
    ∨ ((y 1).val < 256 ∧ 16 ≤ (y 0).val ∧ (y 0).val < l) ∨ (512 ≤ (y 1).val ∧ 16 ≤ (y 0).val ∧ (y 0).val < r)

/-- A rectangle of the tap buffer holds the indices in its row range and its column range. -/
theorem mem_rect (o p : Nat) (sz : Fin 2 → Nat) (inb : ∀ a, (![o, p] : Fin 2 → Nat) a + sz a ≤ S4256x768.size a) (y : S4256x768.Idx) :
    y ∈ (Rect.unit (s := S4256x768) ![o, p] sz inb).set ↔
      (o ≤ (y 0).val ∧ (y 0).val < o + sz 0) ∧ (p ≤ (y 1).val ∧ (y 1).val < p + sz 1) := by
  rw [Rect.mem_set_unit]
  exact Fin.forall_fin_two

/-- The tap buffer has 768 columns. -/
theorem width (y : S4256x768.Idx) : (y 1).val < 768 := (y 1).isLt

variable {f : Nat → Fin 256 → EReal} {L : List (View.Piece (Elt Ideal) S4256x768 .bf16)}

/-- A load of known places reads the tap buffer. -/
theorem Good.load {sig : RefSig} {κ : Kind} {sp : Space} {n l r : Nat} (h : Good (tapBuf f) (dom n l r) L)
    (v : View sig κ sp S4256x768 .bf16) {R C : Nat} (o p : Nat)
    (inb : ∀ a, (![o, p] : Fin 2 → Nat) a + (![R, C] : Fin 2 → Nat) a ≤ S4256x768.size a)
    (i : Fin R) (k : Fin C)
    (hD : 256 ≤ p + k.val ∧ p + k.val < 512 ∧ (o + i.val < n ∨ 4176 ≤ o + i.val)
      ∨ p + k.val < 256 ∧ 16 ≤ o + i.val ∧ o + i.val < l ∨ 512 ≤ p + k.val ∧ 16 ≤ o + i.val ∧ o + i.val < r) :
    v.readCov L (Rect.unit (s := S4256x768) ![o, p] ![R, C] inb).toLoadRect (ix2 i k) = band f (o + i.val) (p + k.val) := by
  rw [View.readCov_eq_canon']
  have e0 : ((Rect.unit (s := S4256x768) ![o, p] ![R, C] inb).toLoadRect.idx (ix2 i k) 0).val = o + i.val := by
    show o + 1 * i.val = _; omega
  have e1 : ((Rect.unit (s := S4256x768) ![o, p] ![R, C] inb).toLoadRect.idx (ix2 i k) 1).val = p + k.val := by
    show p + 1 * k.val = _; omega
  refine (h _ ?_).trans ?_
  · unfold dom
    rw [e0, e1]
    exact hD
  · unfold tapBuf
    rw [e0, e1]

/-- A write of rows from `o` and columns from `p` that holds the tap buffer's values there. -/
theorem Good.write {D D' : S4256x768.Idx → Prop} (h : Good (tapBuf f) D L) {R C : Nat} (o p : Nat)
    (inb : ∀ a, (![o, p] : Fin 2 → Nat) a + (![R, C] : Fin 2 → Nat) a ≤ S4256x768.size a)
    (w : (⟨2, ![R, C]⟩ : Shape).Idx → Elt Ideal .bf16)
    (hw : ∀ (i : Fin R) (k : Fin C), w (ix2 i k) = band f (o + i.val) (p + k.val))
    (hD : ∀ y, D' y → ¬ ((o ≤ (y 0).val ∧ (y 0).val < o + R) ∧ (p ≤ (y 1).val ∧ (y 1).val < p + C)) → D y) :
    Good (tapBuf f) D' (⟨Rect.unit (s := S4256x768) ![o, p] ![R, C] inb, w⟩ :: L) := by
  refine h.cons _ _ (fun x => ?_) (fun y hy hm => hD y hy fun hh => hm ((mem_rect o p _ inb y).2 hh))
  have hx : x = ix2 (x 0) (x 1) := by
    funext a; revert a; exact Fin.forall_fin_two.2 ⟨rfl, rfl⟩
  refine (congrArg w hx).trans ((hw (x 0) (x 1)).trans ?_)
  unfold tapBuf
  show band f (o + (x 0).val) (p + (x 1).val) = band f (o + 1 * (x 0).val) (p + 1 * (x 1).val)
  rw [Nat.one_mul, Nat.one_mul]

/-- The two bands of zeros. -/
theorem Good.zeros (inb₀ inb₁) (w₀ w₁ : S80x256.Idx → Elt Ideal .bf16) (h₀ : w₀ = k0_pay16 (F := Ideal)) (h₁ : w₁ = k0_pay16 (F := Ideal)) :
    Good (tapBuf f) (dom 80 16 16)
      [⟨Rect.unit (s := S4256x768) ![4176, 256] S80x256.size inb₁, w₁⟩, ⟨Rect.unit (s := S4256x768) ![0, 256] S80x256.size inb₀, w₀⟩] := by
  subst h₀ h₁
  have hz : ∀ (o : Nat) (i : Fin 80) (k : Fin 256), (o = 0 ∨ o = 4176) → k0_pay16 (F := Ideal) (ix2 i k) = band f (o + i.val) (256 + k.val) := by
    intro o i k ho
    rw [band_mid, zero_band_apply, ctr, if_neg (by omega)]
  have h0 : Good (tapBuf f) (fun _ => False) [] := fun _ h => h.elim
  have h1 : Good (tapBuf f) (fun y => 256 ≤ (y 1).val ∧ (y 1).val < 512 ∧ (y 0).val < 80)
      [⟨Rect.unit (s := S4256x768) ![0, 256] S80x256.size inb₀, k0_pay16 (F := Ideal)⟩] :=
    h0.write 0 256 inb₀ (k0_pay16 (F := Ideal)) (fun i k => hz 0 i k (.inl rfl)) (fun y hy hn => hn (by omega))
  refine h1.write 4176 256 inb₁ (k0_pay16 (F := Ideal)) (fun i k => hz 4176 i k (.inr rfl)) (fun y hy hn => ?_)
  have : (y 0).val < 4256 := (y 0).isLt
  unfold dom at hy
  show 256 ≤ (y 1).val ∧ (y 1).val < 512 ∧ (y 0).val < 80
  omega

/-- Staging 512 pixels in the middle. -/
theorem Good.stage {n l r : Nat} (h : Good (tapBuf f) (dom n l r) L) (p : Nat) (hn : n = 80 + p) (hp : p + 512 ≤ 4096) (inb)
    (w : S512x256.Idx → Elt Ideal .bf16) (hw : ∀ (i : Fin 512) (k : Fin 256), w (ix2 i k) = f (p + i.val) k) :
    Good (tapBuf f) (dom (n + 512) l r) (⟨Rect.unit (s := S4256x768) ![n, 256] S512x256.size inb, w⟩ :: L) := by
  refine h.write n 256 inb w (fun i k => ?_) (fun y hy hm => ?_)
  · rw [hw, band_mid, ctr, if_pos (by omega), hn]
    congr 1; omega
  · have := width y
    unfold dom at *
    omega

/-- The left tap of 512 rows. -/
theorem Good.left {sig : RefSig} {κ : Kind} {sp : Space} {n l r : Nat} (h : Good (tapBuf f) (dom n l r) L) (m o : Nat)
    (hm : m % 64 = 0) (hl : l = 16 + m) (ho : l = o + 1) (hn : l + 511 ≤ n ∨ 4176 ≤ n) (hb : m < 8192)
    (v : View sig κ sp S4256x768 .bf16) (inb inb')
    (w : S512x256.Idx → Elt Ideal .bf16)
    (hw : w = k0_pay45 rows512 (BitVec.ofNat 32 m) (v.readCov L (Rect.unit (s := S4256x768) ![o, 256] S512x256.size inb').toLoadRect)) :
    Good (tapBuf f) (dom n (l + 512) r) (⟨Rect.unit (s := S4256x768) ![l, 0] S512x256.size inb, w⟩ :: L) := by
  refine h.write l 0 inb w (fun i k => ?_) (fun y hy hm => ?_)
  · rw [hw, Nat.zero_add, left_tap_apply m hm hb, band_left]
    refine if_congr (by omega) rfl ?_
    refine (h.load v o 256 inb' i k (by omega)).trans ?_
    rw [band_mid]
    congr 1; omega
  · have := width y
    unfold dom at *
    omega

/-- The right tap of 512 rows. -/
theorem Good.right {sig : RefSig} {κ : Kind} {sp : Space} {n l r : Nat} (h : Good (tapBuf f) (dom n l r) L) (m o : Nat)
    (hm : m % 64 = 0) (hl : r = 16 + m) (ho : o = r + 1) (hn : r + 513 ≤ n ∨ 4176 ≤ n) (hb : m < 8192)
    (v : View sig κ sp S4256x768 .bf16) (inb inb')
    (w : S512x256.Idx → Elt Ideal .bf16)
    (hw : w = k0_pay46 rows512 (BitVec.ofNat 32 m) (v.readCov L (Rect.unit (s := S4256x768) ![o, 256] S512x256.size inb').toLoadRect)) :
    Good (tapBuf f) (dom n l (r + 512)) (⟨Rect.unit (s := S4256x768) ![r, 512] S512x256.size inb, w⟩ :: L) := by
  refine h.write r 512 inb w (fun i k => ?_) (fun y hy hm => ?_)
  · rw [hw, right_tap_apply m hm hb, band_right]
    refine if_congr (by omega) rfl ?_
    refine (h.load v o 256 inb' i k (by omega)).trans ?_
    rw [band_mid]
    congr 1; omega
  · have := width y
    unfold dom at *
    omega

/-- The left tap of the first 640 rows. -/
theorem Good.leftFirst {sig : RefSig} {κ : Kind} {sp : Space} {n r : Nat} (h : Good (tapBuf f) (dom n 16 r) L)
    (hn : 655 ≤ n) (v : View sig κ sp S4256x768 .bf16) (inb inb')
    (w : S640x256.Idx → Elt Ideal .bf16)
    (hw : w = k0_pay24 k0_pay23 (v.readCov L (Rect.unit (s := S4256x768) ![15, 256] S640x256.size inb').toLoadRect)) :
    Good (tapBuf f) (dom n 656 r) (⟨Rect.unit (s := S4256x768) ![16, 0] S640x256.size inb, w⟩ :: L) := by
  refine h.write 16 0 inb w (fun i k => ?_) (fun y hy hm => ?_)
  · rw [hw, Nat.zero_add, left_tap_first_apply, band_left]
    refine if_congr (by omega) rfl ?_
    refine (h.load v 15 256 inb' i k (by omega)).trans ?_
    rw [band_mid]
    congr 1; omega
  · have := width y
    unfold dom at *
    omega

/-- The right tap of the first 640 rows. -/
theorem Good.rightFirst {sig : RefSig} {κ : Kind} {sp : Space} {n l : Nat} (h : Good (tapBuf f) (dom n l 16) L)
    (hn : 657 ≤ n) (v : View sig κ sp S4256x768 .bf16) (inb inb')
    (w : S640x256.Idx → Elt Ideal .bf16)
    (hw : w = k0_pay25 k0_pay23 (v.readCov L (Rect.unit (s := S4256x768) ![17, 256] S640x256.size inb').toLoadRect)) :
    Good (tapBuf f) (dom n l 656) (⟨Rect.unit (s := S4256x768) ![16, 512] S640x256.size inb, w⟩ :: L) := by
  refine h.write 16 512 inb w (fun i k => ?_) (fun y hy hm => ?_)
  · rw [hw, right_tap_first_apply, band_right]
    refine if_congr (by omega) rfl ?_
    refine (h.load v 17 256 inb' i k (by omega)).trans ?_
    rw [band_mid]
    congr 1; omega
  · have := width y
    unfold dom at *
    omega

/-! ## The two convolutions -/

/-- A convolution of the padded picture before the cut at zero: the three rows of the window against the three matrices, and
    the bias. -/
def preconv (f : Nat → Fin 256 → EReal) (w : Vec Ideal S3x768x256 .f32) (b : Vec Ideal S1x256 .f32) (p : Nat) (c : Fin 256) : EReal :=
  (((∑ k : Fin 768, band f (16 + p) k.val * w (ix3 0 k c)) + ∑ k : Fin 768, band f (80 + p) k.val * w (ix3 1 k c))
    + ∑ k : Fin 768, band f (144 + p) k.val * w (ix3 2 k c)) + b (ix2 0 c)

/-- A convolution of the padded picture. -/
def conv (f : Nat → Fin 256 → EReal) (w : Vec Ideal S3x768x256 .f32) (b : Vec Ideal S1x256 .f32) (p : Nat) (c : Fin 256) : EReal :=
  max (preconv f w b p c) 0

/-- A load of whole rows known on both sides. -/
theorem Good.row {sig : RefSig} {κ : Kind} {sp : Space} {n l : Nat} (h : Good (tapBuf f) (dom n l l) L)
    (v : View sig κ sp S4256x768 .bf16) (o : Nat) (ho : 16 ≤ o) (hl : o + 512 ≤ l) (hn : o + 512 ≤ n ∨ (o + 512 ≤ 4256 ∧ 4176 ≤ n)) (inb)
    (i : Fin 512) (k : Fin 768) :
    v.readCov L (Rect.unit (s := S4256x768) ![o, 0] S512x768.size inb).toLoadRect (ix2 i k) = band f (o + i.val) k.val := by
  refine (h.load v o 0 inb i k (by omega)).trans ?_
  rw [Nat.zero_add]

/-- The three loads of a chunk against the matrices, and the bias, are the convolution's sums. -/
theorem Good.sums {sig : RefSig} {κ : Kind} {sp : Space} {n l : Nat} (h : Good (tapBuf f) (dom n l l) L)
    (v : View sig κ sp S4256x768 .bf16) (p o₀ o₁ o₂ : Nat) (h₀ : o₀ = 16 + p) (h₁ : o₁ = 80 + p) (h₂ : o₂ = 144 + p)
    (hl : p + 656 ≤ l) (hn : p + 656 ≤ n ∨ (p + 656 ≤ 4256 ∧ 4176 ≤ n)) (inb₀ inb₁ inb₂)
    (w : Vec Ideal S3x768x256 .f32) (b : Vec Ideal S1x256 .f32) (i : Fin 512) (c : Fin 256) :
    (((∑ k : Fin 768, v.readCov L (Rect.unit (s := S4256x768) ![o₀, 0] S512x768.size inb₀).toLoadRect (ix2 i k) * w (ix3 0 k c))
      + ∑ k : Fin 768, v.readCov L (Rect.unit (s := S4256x768) ![o₁, 0] S512x768.size inb₁).toLoadRect (ix2 i k) * w (ix3 1 k c))
      + ∑ k : Fin 768, v.readCov L (Rect.unit (s := S4256x768) ![o₂, 0] S512x768.size inb₂).toLoadRect (ix2 i k) * w (ix3 2 k c))
      + b (ix2 0 c) = preconv f w b (p + i.val) c := by
  unfold preconv
  refine congrArg (· + b (ix2 0 c)) (congrArg₂ (· + ·) (congrArg₂ (· + ·) ?_ ?_) ?_)
  · refine Finset.sum_congr rfl fun k _ => congrArg (· * w (ix3 0 k c)) ((h.row v o₀ (by omega) (by omega) (by omega) inb₀ i k).trans ?_)
    rw [h₀, Nat.add_assoc]
  · refine Finset.sum_congr rfl fun k _ => congrArg (· * w (ix3 1 k c)) ((h.row v o₁ (by omega) (by omega) (by omega) inb₁ i k).trans ?_)
    rw [h₁, Nat.add_assoc]
  · refine Finset.sum_congr rfl fun k _ => congrArg (· * w (ix3 2 k c)) ((h.row v o₂ (by omega) (by omega) (by omega) inb₂ i k).trans ?_)
    rw [h₂, Nat.add_assoc]

/-- A chunk of the first convolution. -/
theorem Good.conv {sig : RefSig} {κ : Kind} {sp : Space} {n l : Nat} (h : Good (tapBuf f) (dom n l l) L)
    (v : View sig κ sp S4256x768 .bf16) (p o₀ o₁ o₂ : Nat) (h₀ : o₀ = 16 + p) (h₁ : o₁ = 80 + p) (h₂ : o₂ = 144 + p)
    (hl : p + 656 ≤ l) (hn : p + 656 ≤ n ∨ (p + 656 ≤ 4256 ∧ 4176 ≤ n)) (inb₀ inb₁ inb₂)
    (w : Vec Ideal S3x768x256 .f32) (b : Vec Ideal S1x256 .f32) (W : FVec Ideal S3x768x256 .bf16)
    (hW : W = k0_pay2 w) (B : Vec Ideal S1x256 .f32) (hB : B = b) (u : FVec Ideal S512x256 .bf16)
    (hu : u = k0_pay43 W (v.readCov L (Rect.unit (s := S4256x768) ![o₀, 0] S512x768.size inb₀).toLoadRect)
      (v.readCov L (Rect.unit (s := S4256x768) ![o₁, 0] S512x768.size inb₁).toLoadRect)
      (v.readCov L (Rect.unit (s := S4256x768) ![o₂, 0] S512x768.size inb₂).toLoadRect) B)
    (i : Fin 512) (c : Fin 256) : u (ix2 i c) = Own.conv f w b (p + i.val) c := by
  rw [hu, hW, hB, conv_apply]
  exact congrArg (max · 0) (h.sums v p o₀ o₁ o₂ h₀ h₁ h₂ hl hn inb₀ inb₁ inb₂ w b i c)

/-- The left and the right tap of 512 rows. -/
theorem Good.taps {sig : RefSig} {κ : Kind} {sp : Space} {n l : Nat} (h : Good (tapBuf f) (dom n l l) L) (m o o' : Nat)
    (hm : m % 64 = 0) (hl : l = 16 + m) (ho : l = o + 1) (ho' : o' = l + 1) (hn : l + 513 ≤ n ∨ 4176 ≤ n) (hb : m < 8192)
    (v : View sig κ sp S4256x768 .bf16) (inb inb' inb₁ inb₁')
    (w w' : S512x256.Idx → Elt Ideal .bf16)
    (hw : w = k0_pay45 rows512 (BitVec.ofNat 32 m) (v.readCov L (Rect.unit (s := S4256x768) ![o, 256] S512x256.size inb').toLoadRect))
    (hw' : w' = k0_pay46 rows512 (BitVec.ofNat 32 m) (v.readCov (⟨Rect.unit (s := S4256x768) ![l, 0] S512x256.size inb, w⟩ :: L)
      (Rect.unit (s := S4256x768) ![o', 256] S512x256.size inb₁').toLoadRect)) :
    Good (tapBuf f) (dom n (l + 512) (l + 512)) (⟨Rect.unit (s := S4256x768) ![l, 512] S512x256.size inb₁, w'⟩
      :: ⟨Rect.unit (s := S4256x768) ![l, 0] S512x256.size inb, w⟩ :: L) :=
  (h.left m o hm hl ho (by omega) hb v inb inb' w hw).right m o' hm hl ho' hn hb v inb₁ inb₁' w' hw'

/-- The left and the right tap of the first 640 rows. -/
theorem Good.tapsFirst {sig : RefSig} {κ : Kind} {sp : Space} {n : Nat} (h : Good (tapBuf f) (dom n 16 16) L)
    (hn : 657 ≤ n) (v : View sig κ sp S4256x768 .bf16) (inb inb' inb₁ inb₁')
    (w w' : S640x256.Idx → Elt Ideal .bf16)
    (hw : w = k0_pay24 k0_pay23 (v.readCov L (Rect.unit (s := S4256x768) ![15, 256] S640x256.size inb').toLoadRect))
    (hw' : w' = k0_pay25 k0_pay23 (v.readCov (⟨Rect.unit (s := S4256x768) ![16, 0] S640x256.size inb, w⟩ :: L)
      (Rect.unit (s := S4256x768) ![17, 256] S640x256.size inb₁').toLoadRect)) :
    Good (tapBuf f) (dom n 656 656) (⟨Rect.unit (s := S4256x768) ![16, 512] S640x256.size inb₁, w'⟩
      :: ⟨Rect.unit (s := S4256x768) ![16, 0] S640x256.size inb, w⟩ :: L) :=
  (h.leftFirst (by omega) v inb inb' w hw).rightFirst hn v inb₁ inb₁' w' hw'

/-! ## What the staging buffers of the inputs hold -/

/-- A load of a whole buffer reads what it holds. -/
theorem read_all {sig : RefSig} {κ : Kind} {sp : Space} {s : Shape} {e : EltTy} (m : Memref sig κ sp s e) (hm : m.IsWhole)
    (x : s.Idx → Elt Ideal e) (off : Fin s.rank → Nat) (ho : ∀ a, off a = 0) (inb) :
    View.readAt (Elt Ideal) m.view (Rect.unit off s.size inb).toLoadRect (hm.unread x) = x := by
  rw [View.readAt_eq_ld, Memref.IsWhole.read_unread]
  exact View.ld_unit_lit inb x ho

/-- The pixels of the image staged. -/
def pix (x : Vec Ideal S1x4096x256 .f32) (p : Nat) (c : Fin 256) : EReal :=
  if h : p < 4096 then x (ix3 0 ⟨p, h⟩ c) else 0

/-- A staged chunk holds the pixels from its first. -/
theorem stage_pix {sig : RefSig} {κ : Kind} {sp : Space} (m : Memref sig κ sp S1x4096x256 .f32) (hm : m.IsWhole)
    (x : Vec Ideal S1x4096x256 .f32) (p : Nat) (inb) (w : FVec Ideal S512x256 .bf16)
    (hw : w = k0_pay21 (View.readAt (Elt Ideal) m.view (Rect.unit (s := S1x4096x256) ![0, p, 0] S1x512x256.size inb).toLoadRect (hm.unread x)))
    (i : Fin 512) (c : Fin 256) : w (ix2 i c) = pix x (p + i.val) c := by
  have hp : p + 512 ≤ 4096 := inb 1
  rw [hw, stage_apply, View.readAt_eq_ld, Memref.IsWhole.read_unread]
  unfold pix
  rw [dif_pos (by omega)]
  refine View.ld_unit_apply_of x _ _ inb (ix3 0 i c) _ fun a => ?_
  revert a
  refine Fin.forall_fin_succ.2 ⟨rfl, Fin.forall_fin_two.2 ⟨rfl, ?_⟩⟩
  show c.val = 0 + c.val
  omega

/-! ## The result's rows -/

/-- A channel of the heads: a class score goes through the logistic function, a box coordinate stays. -/
def head (q : Nat → Fin 256 → EReal) (wc : FVec Ideal S256x54 .bf16) (bc : FVec Ideal S1x54 .f32) (p : Nat) (c : Fin 54) : EReal :=
  if c.val % 6 < 2 then Ideal.div 1 (1 + Ideal.exp (0 - ((∑ k : Fin 256, q p k * wc (ix2 k c)) + bc (ix2 0 c))))
  else (∑ k : Fin 256, q p k * wc (ix2 k c)) + bc (ix2 0 c)

/-- The result of one image. -/
def outBuf (g : Nat → Fin 54 → EReal) : S1x4096x54.Idx → Elt Ideal .f32 := fun y => g (y 1).val (y 2)

/-- A write of 512 rows of the result. -/
theorem Good.out {g : Nat → Fin 54 → EReal} {L : List (View.Piece (Elt Ideal) S1x4096x54 .f32)} {p : Nat}
    (h : Good (outBuf g) (fun y => (y 1).val < p) L) (inb) (w : S1x512x54.Idx → Elt Ideal .f32)
    (hw : ∀ (i : Fin 512) (c : Fin 54), w (ix3 0 i c) = g (p + i.val) c) :
    Good (outBuf g) (fun y => (y 1).val < p + 512) (⟨Rect.unit (s := S1x4096x54) ![0, p, 0] S1x512x54.size inb, w⟩ :: L) := by
  refine h.cons _ _ (fun x => ?_) (fun y hy hm => ?_)
  · have hx : x = ix3 0 (x 1) (x 2) := by
      funext a; revert a
      refine Fin.forall_fin_succ.2 ⟨Fin.ext ?_, Fin.forall_fin_two.2 ⟨rfl, rfl⟩⟩
      have : (x 0).val < 1 := (x 0).isLt
      show (x 0).val = 0
      omega
    refine (congrArg w hx).trans ((hw (x 1) (x 2)).trans ?_)
    unfold outBuf
    refine congrArg₂ g ?_ (Fin.ext ?_)
    · show p + (x 1).val = p + 1 * (x 1).val
      omega
    · show (x 2).val = 0 + 1 * (x 2).val
      omega
  · by_contra hlt
    refine hm (Rect.mem_set_unit.2 fun a => ?_)
    have h0 : (y 0).val < 1 := (y 0).isLt
    have h2 : (y 2).val < 54 := (y 2).isLt
    revert a
    refine Fin.forall_fin_succ.2 ⟨?_, Fin.forall_fin_two.2 ⟨?_, ?_⟩⟩
    · show 0 ≤ (y 0).val ∧ (y 0).val < 0 + 1
      omega
    · show p ≤ (y 1).val ∧ (y 1).val < p + 512
      omega
    · show 0 ≤ (y 2).val ∧ (y 2).val < 0 + 54
      omega

/-- A chunk of the second convolution and of the heads. -/
theorem Good.heads {sig : RefSig} {κ : Kind} {sp : Space} {n l : Nat} (h : Good (tapBuf f) (dom n l l) L)
    (v : View sig κ sp S4256x768 .bf16) (p o₀ o₁ o₂ : Nat) (h₀ : o₀ = 16 + p) (h₁ : o₁ = 80 + p) (h₂ : o₂ = 144 + p)
    (hl : p + 656 ≤ l) (hn : p + 656 ≤ n ∨ (p + 656 ≤ 4256 ∧ 4176 ≤ n)) (inb₀ inb₁ inb₂)
    (w : Vec Ideal S3x768x256 .f32) (b : Vec Ideal S1x256 .f32) (W : FVec Ideal S3x768x256 .bf16)
    (hW : W = k0_pay3 w) (B : Vec Ideal S1x256 .f32) (hB : B = b) (wc : FVec Ideal S256x54 .bf16) (bc : FVec Ideal S1x54 .f32)
    (Wc : FVec Ideal S256x54 .bf16) (hWc : Wc = wc) (Bc : FVec Ideal S1x54 .f32) (hBc : Bc = bc) (u : FVec Ideal S1x512x54 .f32)
    (hu : u = k0_pay74 Wc Bc (k0_pay73 W (v.readCov L (Rect.unit (s := S4256x768) ![o₀, 0] S512x768.size inb₀).toLoadRect)
      (v.readCov L (Rect.unit (s := S4256x768) ![o₁, 0] S512x768.size inb₁).toLoadRect)
      (v.readCov L (Rect.unit (s := S4256x768) ![o₂, 0] S512x768.size inb₂).toLoadRect) B))
    (i : Fin 512) (c : Fin 54) : u (ix3 0 i c) = head (Own.conv f w b) wc bc (p + i.val) c := by
  rw [hu, hW, hB, hWc, hBc]
  refine head_apply wc bc _ i c _ ?_
  refine congrArg (· + bc (ix2 0 c)) (Finset.sum_congr rfl fun k _ => congrArg (· * wc (ix2 k c)) ?_)
  rw [presum_apply]
  exact congrArg (max · 0) (h.sums v p o₀ o₁ o₂ h₀ h₁ h₂ hl hn inb₀ inb₁ inb₂ w b i k)

end Cert.KernelIdeal.Own
-- ==== Proof.Agree.lean ====
module
public import proofs.«01_k».proof.Proof.RefConv
public import proofs.«01_k».proof.Proof.Buffer

@[expose] public section

noncomputable section

/-! The kernel's convolution over rows of 768 channels is the reference's convolution over nine neighbours. -/

namespace Cert.KernelIdeal.Own

open Idealize.ShloMosaic Cert.KernelIdeal.Gen
open Cert.ReferenceIdeal.Own (pixels padded tap layer)

/-- A sum over three times 256 channels, in three parts. -/
theorem sum_three (g : Fin 768 → EReal) :
    ∑ k : Fin 768, g k = ((∑ c : Fin 256, g ⟨c.val, by omega⟩) + ∑ c : Fin 256, g ⟨256 + c.val, by omega⟩)
      + ∑ c : Fin 256, g ⟨512 + c.val, by omega⟩ :=
  (Fin.sum_univ_add (a := 512) (b := 256) g).trans
    (congrArg₂ (· + ·) (Fin.sum_univ_add (a := 256) (b := 256) fun k => g (Fin.castAdd 256 k)) rfl)

/-- A row of the tap buffer holds the three neighbours in one row of the padded picture. -/
theorem band_padded (f : Nat → Fin 256 → EReal) (o : Nat) (i : Fin 3) (ho : o = 16 + 64 * i.val) (y x : Nat) (hy : y < 64) (hx : x < 64)
    (c : Fin 256) : band f (o + (64 * y + x)) c.val = padded f (y + i.val) (x + 0) c
      ∧ band f (o + (64 * y + x)) (256 + c.val) = padded f (y + i.val) (x + 1) c
      ∧ band f (o + (64 * y + x)) (512 + c.val) = padded f (y + i.val) (x + 2) c := by
  have hi := i.isLt
  rw [band_left, band_mid, band_right]
  unfold ctr padded
  refine ⟨?_, ?_, ?_⟩
  · by_cases h : 1 ≤ y + i.val ∧ y + i.val ≤ 64 ∧ 1 ≤ x + 0 ∧ x + 0 ≤ 64
    · rw [if_pos h, if_neg (by omega), if_pos (by omega)]
      exact congrArg (fun p => f p c) (by omega)
    · rw [if_neg h, ite_eq_left_iff]
      exact fun _ => if_neg (by omega)
  · by_cases h : 1 ≤ y + i.val ∧ y + i.val ≤ 64 ∧ 1 ≤ x + 1 ∧ x + 1 ≤ 64
    · rw [if_pos h, if_pos (by omega)]
      exact congrArg (fun p => f p c) (by omega)
    · rw [if_neg h, if_neg (by omega)]
  · by_cases h : 1 ≤ y + i.val ∧ y + i.val ≤ 64 ∧ 1 ≤ x + 2 ∧ x + 2 ≤ 64
    · rw [if_pos h, if_neg (by omega), if_pos (by omega)]
      exact congrArg (fun p => f p c) (by omega)
    · rw [if_neg h, ite_eq_left_iff]
      exact fun _ => if_neg (by omega)

/-- The weights of row `i` and neighbour `j`, found at place `256 * j + k` of the flat row. -/
theorem weights_apply (w : Vec Ideal S3x3x256x256 .f32) (h : S3x3x256x256.ShapeCasts S3x768x256) (i j : Fin 3) (k c : Fin 256) (q : Fin 768)
    (hq : q.val = 256 * j.val + k.val) : shapeCast S3x768x256 w h (ix3 i q c) = w (ix4 i j k c) := by
  refine shapeCast_apply w h _ _ ?_
  rw [Shape.rowMajor_val_four, Shape.rowMajor_val_three]
  show ((i.val * 3 + j.val) * 256 + k.val) * 256 + c.val = (i.val * 768 + q.val) * 256 + c.val
  omega

/-- One of the kernel's three products over 768 channels. -/
theorem row_taps (f : Nat → Fin 256 → EReal) (w : Vec Ideal S3x3x256x256 .f32) (h : S3x3x256x256.ShapeCasts S3x768x256) (o : Nat) (i : Fin 3)
    (ho : o = 16 + 64 * i.val) (y x : Nat) (hy : y < 64) (hx : x < 64) (c : Fin 256) :
    ∑ k : Fin 768, band f (o + (64 * y + x)) k.val * shapeCast S3x768x256 w h (ix3 i k c)
      = (tap f w i 0 y x c + tap f w i 1 y x c) + tap f w i 2 y x c := by
  rw [sum_three]
  unfold tap
  have b (k) := band_padded f o i ho y x hy hx k
  refine congrArg₂ (· + ·) (congrArg₂ (· + ·) ?_ ?_) ?_ <;> refine Finset.sum_congr rfl fun k _ => congrArg₂ (· * ·) ?_ ?_
  · exact (b k).1
  · exact weights_apply w h i 0 k c ⟨k.val, by omega⟩ (by show k.val = 256 * 0 + k.val; omega)
  · exact (b k).2.1
  · exact weights_apply w h i 1 k c ⟨256 + k.val, by omega⟩ rfl
  · exact (b k).2.2
  · exact weights_apply w h i 2 k c ⟨512 + k.val, by omega⟩ rfl

/-- The kernel's layer at pixel `64 * y + x` is the reference's at row `y` and column `x`. -/
theorem conv_layer (f : Nat → Fin 256 → EReal) (w : Vec Ideal S3x3x256x256 .f32) (v : Vec Ideal S256 .f32)
    (hw : S3x3x256x256.ShapeCasts S3x768x256) (hv : S256.ShapeCasts S1x256) (y x : Nat) (hy : y < 64) (hx : x < 64) (c : Fin 256) :
    conv f (shapeCast S3x768x256 w hw) (shapeCast S1x256 v hv) (64 * y + x) c = layer f w v y x c := by
  unfold conv preconv layer
  rw [row_taps f w hw 16 0 rfl y x hy hx, row_taps f w hw 80 1 rfl y x hy hx, row_taps f w hw 144 2 rfl y x hy hx]
  refine congrArg (max · 0) (congrArg₂ (· + ·) ?_ ?_)
  · rw [zero_add]
    simp only [add_assoc]
  · refine shapeCast_apply v hv _ _ ?_
    rw [Shape.rowMajor_val_one, Shape.rowMajor_val_two]
    show c.val = 0 * 256 + c.val
    omega

/-- A layer depends on the picture's 4096 pixels only. -/
theorem conv_congr {f g : Nat → Fin 256 → EReal} (h : ∀ p < 4096, ∀ c, f p c = g p c) (w : Vec Ideal S3x768x256 .f32) (v : Vec Ideal S1x256 .f32) :
    conv f w v = conv g w v := by
  have e : ctr f = ctr g := by
    funext row c
    unfold ctr
    by_cases hr : 80 ≤ row ∧ row < 4176
    · rw [if_pos hr, if_pos hr, h _ (by omega)]
    · rw [if_neg hr, if_neg hr]
  have eb : band f = band g := by
    funext row q
    unfold band
    rw [e]
  funext p c
  unfold conv preconv
  rw [eb]

/-- The pixels of the reference's layer are the kernel's layer of the pixels. -/
theorem pixels_layer (X : Vec Ideal S2x64x64x256 .f32) (w : Vec Ideal S3x3x256x256 .f32) (v : Vec Ideal S256 .f32)
    (hw : S3x3x256x256.ShapeCasts S3x768x256) (hv : S256.ShapeCasts S1x256) (b : Fin 2) (p : Nat) (hp : p < 4096) (c : Fin 256) :
    pixels (Cert.ReferenceIdeal.Read.val_main_v50 (F := Ideal) X w v) b p c
      = conv (pixels X b) (shapeCast S3x768x256 w hw) (shapeCast S1x256 v hv) p c := by
  unfold pixels
  rw [dif_pos hp]
  refine (Cert.ReferenceIdeal.Own.layer_apply X w v b _ _ c).trans ?_
  rw [← conv_layer (pixels X b) w v hw hv (p / 64) (p % 64) (by omega) (by omega) c, show 64 * (p / 64) + p % 64 = p by omega]
  rfl

/-- Both layers: the reference's features at a pixel are the kernel's. -/
theorem features (X : Vec Ideal S2x64x64x256 .f32) (w : Vec Ideal S3x3x256x256 .f32) (v : Vec Ideal S256 .f32)
    (w' : Vec Ideal S3x3x256x256 .f32) (v' : Vec Ideal S256 .f32)
    (hw hw' : S3x3x256x256.ShapeCasts S3x768x256) (hv hv' : S256.ShapeCasts S1x256) (b : Fin 2) (y x : Fin 64) (c : Fin 256) :
    Cert.ReferenceIdeal.Read.val_main_v101 (F := Ideal) X w v w' v' (ix4 b y x c)
      = conv (conv (pixels X b) (shapeCast S3x768x256 w hw) (shapeCast S1x256 v hv)) (shapeCast S3x768x256 w' hw') (shapeCast S1x256 v' hv')
          (64 * y.val + x.val) c := by
  rw [Cert.ReferenceIdeal.Own.layer_twice, Cert.ReferenceIdeal.Own.layer_apply,
    ← conv_layer _ w' v' hw' hv' y.val x.val y.isLt x.isLt c]
  exact congrFun (congrFun (conv_congr (fun p hp c => pixels_layer X w v hw hv b p hp c) _ _) _) _

end Cert.KernelIdeal.Own
-- ==== Proof.Reals.lean ====
module
public import Idealize.ShloMosaic.PureOps
public import Idealize.ShloMosaic.Lib.Pointwise

@[expose] public section

noncomputable section

/-! Real numbers among the extended reals: what keeps them real, and two identities that hold for them only. -/

namespace Cert.KernelIdeal.Own

open Idealize.ShloMosaic

/-- The value is a real number: neither infinity. -/
def IsReal (v : EReal) : Prop := ∃ r : ℝ, v = (r : EReal)

/-- Zero is real. -/
theorem IsReal.zero : IsReal 0 := ⟨0, rfl⟩

/-- A sum of two reals is real. -/
theorem IsReal.add {u v : EReal} (hu : IsReal u) (hv : IsReal v) : IsReal (u + v) := by
  obtain ⟨r, rfl⟩ := hu
  obtain ⟨s, rfl⟩ := hv
  exact ⟨r + s, (EReal.coe_add r s).symm⟩

/-- A product of two reals is real. -/
theorem IsReal.mul {u v : EReal} (hu : IsReal u) (hv : IsReal v) : IsReal (u * v) := by
  obtain ⟨r, rfl⟩ := hu
  obtain ⟨s, rfl⟩ := hv
  exact ⟨r * s, (EReal.coe_mul r s).symm⟩

/-- The larger of two reals is real. -/
theorem IsReal.max {u v : EReal} (hu : IsReal u) (hv : IsReal v) : IsReal (max u v) := by
  rcases max_choice u v with h | h <;> rw [h] <;> assumption

/-- A finite sum of reals is real. -/
theorem IsReal.sum {ι : Type} (s : Finset ι) {f : ι → EReal} (h : ∀ i, IsReal (f i)) : IsReal (∑ i ∈ s, f i) :=
  Finset.sum_induction f IsReal (fun _ _ => IsReal.add) IsReal.zero fun i _ => h i

/-- A finite sum of real numbers, taken among the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- An affine form with the difference of two weights and the difference of two offsets is the difference of the two
    affine forms, when all is real. -/
theorem affine_sub {ι : Type} [Fintype ι] (f u v : ι → EReal) (β γ : EReal) (hf : ∀ i, IsReal (f i)) (hu : ∀ i, IsReal (u i))
    (hv : ∀ i, IsReal (v i)) (hβ : IsReal β) (hγ : IsReal γ) :
    (∑ i, f i * (u i - v i)) + (β - γ) = ((∑ i, f i * u i) + β) - ((∑ i, f i * v i) + γ) := by
  choose f' hf using hf
  choose u' hu using hu
  choose v' hv using hv
  obtain ⟨b, rfl⟩ := hβ
  obtain ⟨g, rfl⟩ := hγ
  simp only [hf, hu, hv, ← EReal.coe_sub, ← EReal.coe_mul, ← coe_sum, ← EReal.coe_add, EReal.coe_eq_coe_iff, mul_sub,
    Finset.sum_sub_distrib]
  ring

/-- The quotient of two real numbers, the second not zero. -/
theorem div_real (x y : ℝ) (h : y ≠ 0) : Ideal.div (x : EReal) (y : EReal) = ((x / y : ℝ) : EReal) := by
  rw [Ideal.div_coe h, ← EReal.coe_mul, mul_one_div]

/-- One of two shares of exponentials is the logistic function of the difference: what is taken from both exponents
    cancels. -/
theorem share {z o M : EReal} (hz : IsReal z) (ho : IsReal o) (hM : IsReal M) :
    Ideal.div (Ideal.exp (z - M)) (Ideal.exp (z - M) + Ideal.exp (o - M)) = Ideal.div 1 (1 + Ideal.exp (0 - (z - o))) := by
  obtain ⟨z, rfl⟩ := hz
  obtain ⟨o, rfl⟩ := ho
  obtain ⟨M, rfl⟩ := hM
  rw [show (1 : EReal) = ((1 : ℝ) : EReal) from rfl, show (0 : EReal) = ((0 : ℝ) : EReal) from rfl]
  simp only [← EReal.coe_sub, Ideal.exp_coe, ← EReal.coe_add]
  have h1 := Real.exp_pos (z - M)
  have h2 := Real.exp_pos (o - M)
  have h3 := Real.exp_pos (0 - (z - o))
  rw [div_real _ _ (by positivity), div_real _ _ (by positivity), EReal.coe_eq_coe_iff, div_eq_div_iff (by positivity) (by positivity),
    mul_add, ← Real.exp_add, show z - M + (0 - (z - o)) = o - M by ring]
  ring

end Cert.KernelIdeal.Own
-- ==== Proof.Heads.lean ====
module
public import proofs.«01_k».proof.Proof.RefConv
public import proofs.«01_k».proof.Proof.Reals

@[expose] public section

noncomputable section

/-! The reference's two heads at an index, and the array they are joined to. -/

namespace Cert.ReferenceIdeal.Own

open Cert.ReferenceIdeal Cert.ReferenceIdeal.Gen Cert.ReferenceIdeal.Read Idealize.ShloMosaic
open Cert.KernelIdeal.Own (IsReal share)

variable (x0 : Vec Ideal S2x64x64x256 .f32) (x1 : Vec Ideal S3x3x256x256 .f32) (x2 : Vec Ideal S256 .f32)
  (x3 : Vec Ideal S3x3x256x256 .f32) (x4 : Vec Ideal S256 .f32) (x5 : Vec Ideal S1x1x256x36 .f32) (x6 : Vec Ideal S36 .f32)
  (x7 : Vec Ideal S1x1x256x18 .f32) (x8 : Vec Ideal S18 .f32)

/-- The box head at a pixel, anchor `a` and coordinate `d`. -/
theorem box_apply (b : Fin 2) (y x : Fin 64) (a : Fin 9) (d : Fin 4) (q : Fin 36) (hq : q.val = 4 * a.val + d.val) :
    val_main_v107 (F := Ideal) x0 x1 x2 x3 x4 x5 x6 (ix5 b y x a d)
      = (∑ k : Fin 256, val_main_v101 (F := Ideal) x0 x1 x2 x3 x4 (ix4 b y x k) * x5 (ix4 0 0 k q)) + x6 (ix1 q) := by
  have e : val_main_v107 (F := Ideal) x0 x1 x2 x3 x4 x5 x6 (ix5 b y x a d)
      = val_main_v106 (F := Ideal) x0 x1 x2 x3 x4 x5 x6 (ix4 b y x q) := by
    unfold val_main_v107
    refine shapeCast_apply _ _ _ _ ?_
    rw [Shape.rowMajor_val_four, Shape.rowMajor_val_five]
    show ((b.val * 64 + y.val) * 64 + x.val) * 36 + q.val = (((b.val * 64 + y.val) * 64 + x.val) * 9 + a.val) * 4 + d.val
    omega
  rw [e, val_main_v106_apply, val_main_v103_apply, val_main_v105_apply, val_main_v104_apply]
  refine congrArg₂ (fun u v : EReal => u + v) (Finset.sum_congr rfl fun k _ => congrArg₂ (fun u v : EReal => u * v) (congrArg _ ?_) ?_) (congrArg x6 ?_)
  · exact funext fun a => match a with | ⟨0, _⟩ => rfl | ⟨1, _⟩ => rfl | ⟨2, _⟩ => rfl | ⟨3, _⟩ => rfl
  · refine shapeCast_apply _ _ _ _ ?_
    rw [Shape.rowMajor_val_four, Shape.rowMajor_val_two]
    show ((0 * 1 + 0) * 256 + k.val) * 36 + q.val = k.val * 36 + q.val
    omega
  · exact funext fun a => match a with | ⟨0, _⟩ => rfl

/-- The score head at a pixel, anchor `a` and class `s`, before the shares are taken. -/
theorem score_apply (b : Fin 2) (y x : Fin 64) (a : Fin 9) (s : Fin 2) (q : Fin 18) (hq : q.val = 2 * a.val + s.val) :
    val_main_v113 (F := Ideal) x0 x1 x2 x3 x4 x7 x8 (ix5 b y x a s)
      = (∑ k : Fin 256, val_main_v101 (F := Ideal) x0 x1 x2 x3 x4 (ix4 b y x k) * x7 (ix4 0 0 k q)) + x8 (ix1 q) := by
  have e : val_main_v113 (F := Ideal) x0 x1 x2 x3 x4 x7 x8 (ix5 b y x a s)
      = val_main_v112 (F := Ideal) x0 x1 x2 x3 x4 x7 x8 (ix4 b y x q) := by
    unfold val_main_v113
    refine shapeCast_apply _ _ _ _ ?_
    rw [Shape.rowMajor_val_four, Shape.rowMajor_val_five]
    show ((b.val * 64 + y.val) * 64 + x.val) * 18 + q.val = (((b.val * 64 + y.val) * 64 + x.val) * 9 + a.val) * 2 + s.val
    omega
  rw [e, val_main_v112_apply, val_main_v109_apply, val_main_v111_apply, val_main_v110_apply]
  refine congrArg₂ (fun u v : EReal => u + v) (Finset.sum_congr rfl fun k _ => congrArg₂ (fun u v : EReal => u * v) (congrArg _ ?_) ?_) (congrArg x8 ?_)
  · exact funext fun a => match a with | ⟨0, _⟩ => rfl | ⟨1, _⟩ => rfl | ⟨2, _⟩ => rfl | ⟨3, _⟩ => rfl
  · refine shapeCast_apply _ _ _ _ ?_
    rw [Shape.rowMajor_val_four, Shape.rowMajor_val_two]
    show ((0 * 1 + 0) * 256 + k.val) * 18 + q.val = k.val * 18 + q.val
    omega
  · exact funext fun a => match a with | ⟨0, _⟩ => rfl

/-- The word of minus infinity. -/
theorem bottom_word : Ideal.ofBits .f32 0xFF800000#32 = ⊥ := by simp [Ideal.ofBits, Ideal.ieee]

/-- The shape of the scores without its last axis. -/
theorem reduces_last : S2x64x64x9x2.Reduces [4] S2x64x64x9 := by decide

/-- The largest of two values, started at minus infinity. -/
theorem fold_two (f : Fin 2 → EReal) : (Finset.univ : Finset (Fin 2)).fold max ⊥ f = max (f 0) (f 1) := by
  rw [show (Finset.univ : Finset (Fin 2)) = {0, 1} from rfl, Finset.fold_insert (by decide), Finset.fold_singleton, max_eq_left bot_le]

/-- The largest of two reals along the last axis is real. -/
theorem max_real (z : FVec Ideal S2x64x64x9x2 .f32) (hz : ∀ i, IsReal (z i)) (j : S2x64x64x9.Idx) :
    IsReal (Host.reduce (FloatOps.maximumf : Ideal .f32 → Ideal .f32 → Ideal .f32) z (val_main_cst_2 (F := Ideal))
      reducesTo_S2x64x64x9x2_S2x64x64x9_d4 h_S_ j) := by
  have e := Host.reduce_eq_fold_single (max : EReal → EReal → EReal) z (val_main_cst_2 (F := Ideal))
    reducesTo_S2x64x64x9x2_S2x64x64x9_d4 reduces_last h_S_ j
  rw [val_main_cst_2_apply] at e
  have f := e.trans ((congrArg (fun v => Finset.fold max v (z ∘ reduces_last.lift j) _) bottom_word).trans (fold_two _))
  exact (congrArg IsReal f).mpr ((hz _).max (hz _))

/-- What the reference subtracts from both scores is real if the scores are. -/
theorem top_real (hz : ∀ i, IsReal (val_main_v113 (F := Ideal) x0 x1 x2 x3 x4 x7 x8 i)) (j : S2x64x64x9.Idx) :
    IsReal (val_main_v116 (F := Ideal) x0 x1 x2 x3 x4 x7 x8 j) := by
  rw [val_main_v116_apply, val_main_v115_apply, val_main_cst_3_apply]
  show IsReal (max (Ideal.ofBits .f32 0xFF800000#32) (val_main_v114 (F := Ideal) x0 x1 x2 x3 x4 x7 x8 j))
  rw [bottom_word, max_eq_right bot_le]
  exact max_real _ hz j

/-- The share of one score is the logistic function of what it is above the other. -/
theorem share_apply (hz : ∀ i, IsReal (val_main_v113 (F := Ideal) x0 x1 x2 x3 x4 x7 x8 i)) (b : Fin 2) (y x : Fin 64) (a : Fin 9)
    (s : Fin 2) : val_main_v124 (F := Ideal) x0 x1 x2 x3 x4 x7 x8 (ix5 b y x a s)
      = Ideal.div 1 (1 + Ideal.exp (0 - (val_main_v113 (F := Ideal) x0 x1 x2 x3 x4 x7 x8 (ix5 b y x a s)
          - val_main_v113 (F := Ideal) x0 x1 x2 x3 x4 x7 x8 (ix5 b y x a (1 - s))))) := by
  have hM := top_real x0 x1 x2 x3 x4 x7 x8 hz (ix4 b y x a)
  have e (s : Fin 2) : val_main_v120 (F := Ideal) x0 x1 x2 x3 x4 x7 x8 (ix5 b y x a s)
      = Ideal.exp (val_main_v113 (F := Ideal) x0 x1 x2 x3 x4 x7 x8 (ix5 b y x a s)
        - val_main_v116 (F := Ideal) x0 x1 x2 x3 x4 x7 x8 (ix4 b y x a)) := by
    rw [val_main_v120_apply, val_main_v119_apply, val_main_v118_apply, val_main_v117_apply]
    refine congrArg (fun j => Ideal.exp (val_main_v113 (F := Ideal) x0 x1 x2 x3 x4 x7 x8 (ix5 b y x a s)
        - val_main_v116 (F := Ideal) x0 x1 x2 x3 x4 x7 x8 j)) ?_
    exact funext fun a => match a with | ⟨0, _⟩ => rfl | ⟨1, _⟩ => rfl | ⟨2, _⟩ => rfl | ⟨3, _⟩ => rfl
  have i (k : Fin 2) : idx_main_v121 (idx_main_v122 (idx_main_v123 (ix5 b y x a s))) k = ix5 b y x a k :=
    funext fun a => match a with | ⟨0, _⟩ => rfl | ⟨1, _⟩ => rfl | ⟨2, _⟩ => rfl | ⟨3, _⟩ => rfl | ⟨4, _⟩ => rfl
  rw [val_main_v124_apply, val_main_v123_apply, val_main_v122_apply, val_main_v121_apply, val_main_cst_4_apply, Fin.sum_univ_two, i, i,
    e, e, e]
  rw [← share (hz _) (hz (ix5 b y x a (1 - s))) hM]
  show Ideal.div _ (Ideal.ofBits .f32 0x00000000#32 + _) = _
  rw [Ideal.ofBits_zero_f32, zero_add]
  match s with
  | 0 => rfl
  | 1 => exact congrArg (Ideal.div _) (add_comm _ _)

/-- Two arrays joined along the last axis: the first two places are the first's. -/
theorem joined_left (u : Vec Ideal S2x64x64x9x2 .f32) (w : Vec Ideal S2x64x64x9x4 .f32) (b : Fin 2) (y x : Fin 64) (a : Fin 9) (q : Fin 6)
    (s : Fin 2) (h : q.val = s.val) :
    concatenate S2x64x64x9x6 4 [⟨S2x64x64x9x2, u⟩, ⟨S2x64x64x9x4, w⟩] concatenates_S2x64x64x9x2_S2x64x64x9x4_S2x64x64x9x6_d4 (ix5 b y x a q)
      = u (ix5 b y x a s) :=
  concatenate_pair_apply_left (t := S2x64x64x9x6) (s₁ := S2x64x64x9x2) (s₂ := S2x64x64x9x4) (4 : Fin 5) u w _ (ix5 b y x a q) rfl
    (ix5 b y x a s) (fun c => by
      match c with
      | ⟨0, _⟩ => rfl
      | ⟨1, _⟩ => rfl
      | ⟨2, _⟩ => rfl
      | ⟨3, _⟩ => rfl
      | ⟨4, _⟩ => exact h.symm)

/-- Two arrays joined along the last axis: the last four places are the second's. -/
theorem joined_right (u : Vec Ideal S2x64x64x9x2 .f32) (w : Vec Ideal S2x64x64x9x4 .f32) (b : Fin 2) (y x : Fin 64) (a : Fin 9) (q : Fin 6)
    (d : Fin 4) (h : q.val = d.val + 2) :
    concatenate S2x64x64x9x6 4 [⟨S2x64x64x9x2, u⟩, ⟨S2x64x64x9x4, w⟩] concatenates_S2x64x64x9x2_S2x64x64x9x4_S2x64x64x9x6_d4 (ix5 b y x a q)
      = w (ix5 b y x a d) := by
  refine concatenate_pair_apply_right (t := S2x64x64x9x6) (s₁ := S2x64x64x9x2) (s₂ := S2x64x64x9x4) (4 : Fin 5) u w _ (ix5 b y x a q)
    rfl rfl (ix5 b y x a d) (fun c hc => ?_) h.symm
  match c with
  | ⟨0, _⟩ => rfl
  | ⟨1, _⟩ => rfl
  | ⟨2, _⟩ => rfl
  | ⟨3, _⟩ => rfl
  | ⟨4, _⟩ => exact absurd rfl hc

/-- The first two places of an anchor hold the shares. -/
theorem joined_score (b : Fin 2) (y x : Fin 64) (a : Fin 9) (q : Fin 6) (s : Fin 2) (h : q.val = s.val) :
    val_main_v125 (F := Ideal) x0 x1 x2 x3 x4 x5 x6 x7 x8 (ix5 b y x a q)
      = val_main_v124 (F := Ideal) x0 x1 x2 x3 x4 x7 x8 (ix5 b y x a s) :=
  joined_left _ _ b y x a q s h

/-- The last four places of an anchor hold the box. -/
theorem joined_box (b : Fin 2) (y x : Fin 64) (a : Fin 9) (q : Fin 6) (d : Fin 4) (h : q.val = d.val + 2) :
    val_main_v125 (F := Ideal) x0 x1 x2 x3 x4 x5 x6 x7 x8 (ix5 b y x a q)
      = val_main_v107 (F := Ideal) x0 x1 x2 x3 x4 x5 x6 (ix5 b y x a d) :=
  joined_right _ _ b y x a q d h

end Cert.ReferenceIdeal.Own
-- ==== Proof.HeadWeights.lean ====
module
public import proofs.«01_k».proof.Proof.Gen.KernelIdeal.Skeleton
public import Idealize.ShloMosaic.Lib.Pointwise
public import Idealize.ShloMosaic.Lib.ValueIdx

@[expose] public section

noncomputable section

/-! The one matrix that serves both heads: its columns are the coordinates of the boxes and, for the scores, the differences of
    two columns of the score head. -/

namespace Cert.KernelIdeal.Own

open Idealize.ShloMosaic Cert.KernelIdeal.Gen

/-- The row counter of the 54 × 54 matrix that mixes the heads' columns. -/
abbrev rows54 : IVec S54x54 32 := iota .tc S54x54 32 [0] iota_S54x54_d0_w32

/-- The mixing matrix. -/
def mix : FVec Ideal S54x54 .f32 :=
  k0_pay13 rows54 k0_pay4 (k0_pay9 rows54 k0_pay4 (6#32) k0_pay5 k0_pay6 k0_pay7 0#32)
    (k0_pay10 rows54 k0_pay4 (6#32) k0_pay5 k0_pay6 k0_pay7 0#32) (k0_pay11 (6#32) k0_pay5 k0_pay6 k0_pay7 0#32) k0_pay12

/-- The anchor of a channel: its number divided by six. -/
theorem anchor_word (j c : Fin 54) : k0_pay4 (ix2 j c) = BitVec.ofNat 32 (c.val / 6) := by
  unfold k0_pay4
  pointwise
  revert c
  decide

/-- The place of a channel within its anchor: the remainder by six. -/
theorem place_word (j c : Fin 54) :
    k0_pay8 (6#32) k0_pay5 k0_pay6 k0_pay7 0#32 (ix2 j c) = BitVec.ofNat 32 (c.val % 6) := by
  unfold k0_pay8 k0_pay7 k0_pay6 k0_pay5
  pointwise
  revert c
  decide

/-- The rows that enter a column with the sign plus: of the first two places the score's own, of the others the box
    coordinate's. -/
def plusRow (j c : Nat) : Prop :=
  (2 ≤ c % 6 ∧ j = 18 + 4 * (c / 6) + c % 6 - 2) ∨ (c % 6 = 0 ∧ j = 2 * (c / 6)) ∨ (c % 6 = 1 ∧ j = 2 * (c / 6) + 1)

/-- The rows that enter a column with the sign minus: of the first two places the other score's. -/
def minusRow (j c : Nat) : Prop := (c % 6 = 0 ∧ j = 2 * (c / 6) + 1) ∨ (c % 6 = 1 ∧ j = 2 * (c / 6))

/-- Whether a row enters with plus can be decided. -/
instance (j c : Nat) : Decidable (plusRow j c) := by unfold plusRow; infer_instance
/-- Whether a row enters with minus can be decided. -/
instance (j c : Nat) : Decidable (minusRow j c) := by unfold minusRow; infer_instance

/-- The bit of the plus rows. -/
theorem plus_word : ∀ j c : Fin 54,
    IntOp.ori
      (IntOp.ori
        (IntOp.andi (IntOp.cmpi .sge (BitVec.ofNat 32 (c.val % 6)) 2#32)
          (IntOp.cmpi .eq (BitVec.ofNat 32 j.val)
            (IntOp.subi (IntOp.addi (IntOp.addi (18#32) (IntOp.muli (4#32) (BitVec.ofNat 32 (c.val / 6))))
              (BitVec.ofNat 32 (c.val % 6))) 2#32)))
        (IntOp.andi (IntOp.cmpi .eq (BitVec.ofNat 32 (c.val % 6)) 0#32)
          (IntOp.cmpi .eq (BitVec.ofNat 32 j.val) (IntOp.muli (2#32) (BitVec.ofNat 32 (c.val / 6))))))
      (IntOp.andi (IntOp.cmpi .eq (BitVec.ofNat 32 (c.val % 6)) 1#32)
        (IntOp.cmpi .eq (BitVec.ofNat 32 j.val) (IntOp.addi (IntOp.muli (2#32) (BitVec.ofNat 32 (c.val / 6))) 1#32)))
      = if plusRow j c then 1#1 else 0#1 := by
  decide +kernel

/-- The bit of the minus rows. -/
theorem minus_word : ∀ j c : Fin 54,
    IntOp.ori
      (IntOp.andi (IntOp.cmpi .eq (BitVec.ofNat 32 (c.val % 6)) 0#32)
        (IntOp.cmpi .eq (BitVec.ofNat 32 j.val) (IntOp.addi (IntOp.muli (2#32) (BitVec.ofNat 32 (c.val / 6))) 1#32)))
      (IntOp.andi (IntOp.cmpi .eq (BitVec.ofNat 32 (c.val % 6)) 1#32)
        (IntOp.cmpi .eq (BitVec.ofNat 32 j.val) (IntOp.muli (2#32) (BitVec.ofNat 32 (c.val / 6)))))
      = if minusRow j c then 1#1 else 0#1 := by
  decide +kernel

/-- A selection on a decided bit. -/
theorem select_decided {α : Type} (p : Prop) [Decidable p] (a b : α) :
    Scalar.select (if p then 1#1 else 0#1) a b = if p then a else b := by
  by_cases h : p <;> simp [h, Scalar.select]

/-- The mixing matrix holds one where a row enters with plus, minus one where it enters with minus. -/
theorem mix_apply (j c : Fin 54) :
    mix (ix2 j c) = (if plusRow j c then (1 : EReal) else 0) - (if minusRow j c then (1 : EReal) else 0) := by
  unfold mix k0_pay13 k0_pay12 k0_pay11 k0_pay10 k0_pay9
  pointwise
  simp only [anchor_word, place_word, plus_word, minus_word, select_decided]

/-- An entry of the mixing matrix with a plus row of bit `p` and a minus row of bit `m`. -/
abbrev sign (p m : Prop) [Decidable p] [Decidable m] : EReal := (if p then (1 : EReal) else 0) - (if m then (1 : EReal) else 0)

/-- A sum against a column with one plus row and one minus row is the difference of the two entries. -/
theorem sum_plus_minus {n : Nat} (x : Fin n → EReal) (e c : Nat) (p m : Fin n)
    (hp : ∀ j : Fin n, plusRow (e + j.val) c ↔ j = p) (hm : ∀ j : Fin n, minusRow (e + j.val) c ↔ j = m) (hne : p ≠ m) :
    ∑ j : Fin n, x j * sign (plusRow (e + j.val) c) (minusRow (e + j.val) c) = x p - x m := by
  simp only [sign, hp, hm]
  rw [Fintype.sum_eq_add p m hne (fun j h => by simp [h.1, h.2])]
  simp [hne, hne.symm, sub_eq_add_neg]

/-- A sum against a column with one plus row only is that row's entry. -/
theorem sum_plus {n : Nat} (x : Fin n → EReal) (e c : Nat) (p : Fin n)
    (hp : ∀ j : Fin n, plusRow (e + j.val) c ↔ j = p) (hm : ∀ j : Fin n, ¬ minusRow (e + j.val) c) :
    ∑ j : Fin n, x j * sign (plusRow (e + j.val) c) (minusRow (e + j.val) c) = x p := by
  simp only [sign, hp, hm]
  rw [Fintype.sum_eq_single p (fun j h => by simp [h])]
  simp

/-- A sum against rows that hold zeros is zero. -/
theorem sum_none {n : Nat} (x : Fin n → EReal) (e c : Nat)
    (hp : ∀ j : Fin n, ¬ plusRow (e + j.val) c) (hm : ∀ j : Fin n, ¬ minusRow (e + j.val) c) :
    ∑ j : Fin n, x j * sign (plusRow (e + j.val) c) (minusRow (e + j.val) c) = 0 := by
  simp [sign, hp, hm]

/-- The channel of a class score. -/
abbrev scoreCh (a : Fin 9) (s : Fin 2) : Fin 54 := ⟨6 * a.val + s.val, by omega⟩
/-- The channel of a box coordinate. -/
abbrev boxCh (a : Fin 9) (d : Fin 4) : Fin 54 := ⟨6 * a.val + 2 + d.val, by omega⟩
/-- The class head's column of a score. -/
abbrev clsCol (a : Fin 9) (s : Fin 2) : Fin 18 := ⟨2 * a.val + s.val, by omega⟩
/-- The box head's column of a coordinate. -/
abbrev regCol (a : Fin 9) (d : Fin 4) : Fin 36 := ⟨4 * a.val + d.val, by omega⟩
/-- The other score of a pair. -/
abbrev other (s : Fin 2) : Fin 2 := 1 - s

/-- A score's column has the score's own row with plus. -/
theorem score_plus : ∀ (a : Fin 9) (s : Fin 2) (j : Fin 18),
    plusRow (0 + j.val) (scoreCh a s).val ↔ j = clsCol a s := by decide +kernel
/-- A score's column has the other score's row with minus. -/
theorem score_minus : ∀ (a : Fin 9) (s : Fin 2) (j : Fin 18),
    minusRow (0 + j.val) (scoreCh a s).val ↔ j = clsCol a (other s) := by decide +kernel
/-- The two rows differ. -/
theorem score_ne : ∀ (a : Fin 9) (s : Fin 2), clsCol a s ≠ clsCol a (other s) := by decide +kernel
/-- A score's column has no row of the box head. -/
theorem score_none : ∀ (a : Fin 9) (s : Fin 2) (j : Fin 36),
    ¬ plusRow (18 + j.val) (scoreCh a s).val ∧ ¬ minusRow (18 + j.val) (scoreCh a s).val := by decide +kernel
/-- A box coordinate's column has no row of the class head. -/
theorem box_none : ∀ (a : Fin 9) (d : Fin 4) (j : Fin 18),
    ¬ plusRow (0 + j.val) (boxCh a d).val ∧ ¬ minusRow (0 + j.val) (boxCh a d).val := by decide +kernel
/-- A box coordinate's column has its own row with plus. -/
theorem box_plus : ∀ (a : Fin 9) (d : Fin 4) (j : Fin 36),
    plusRow (18 + j.val) (boxCh a d).val ↔ j = regCol a d := by decide +kernel
/-- A box coordinate's column has no row with minus. -/
theorem box_minus : ∀ (a : Fin 9) (d : Fin 4) (j : Fin 36), ¬ minusRow (18 + j.val) (boxCh a d).val := by decide +kernel

/-- The head weights the kernel builds of the class head's and the box head's. -/
def headW (cls : Vec Ideal S256x18 .f32) (reg : Vec Ideal S256x36 .f32) : FVec Ideal S256x54 .bf16 :=
  k0_pay14 rows54 k0_pay4 (k0_pay9 rows54 k0_pay4 (6#32) k0_pay5 k0_pay6 k0_pay7 0#32)
    (k0_pay10 rows54 k0_pay4 (6#32) k0_pay5 k0_pay6 k0_pay7 0#32) (k0_pay11 (6#32) k0_pay5 k0_pay6 k0_pay7 0#32) k0_pay12 cls reg

/-- The head bias the kernel builds of the class head's and the box head's. -/
def headB (cls : Vec Ideal S1x18 .f32) (reg : Vec Ideal S1x36 .f32) : FVec Ideal S1x54 .f32 :=
  k0_pay15 rows54 k0_pay4 (k0_pay9 rows54 k0_pay4 (6#32) k0_pay5 k0_pay6 k0_pay7 0#32)
    (k0_pay10 rows54 k0_pay4 (6#32) k0_pay5 k0_pay6 k0_pay7 0#32) (k0_pay11 (6#32) k0_pay5 k0_pay6 k0_pay7 0#32) k0_pay12 cls reg

/-- The head weights as two sums against the mixing matrix's rows. -/
theorem headW_sum (cls : Vec Ideal S256x18 .f32) (reg : Vec Ideal S256x36 .f32) (k : Fin 256) (c : Fin 54) :
    headW cls reg (ix2 k c) =
      (∑ j : Fin 18, cls (ix2 k j) * sign (plusRow (0 + j.val) c.val) (minusRow (0 + j.val) c.val))
      + ∑ j : Fin 36, reg (ix2 k j) * sign (plusRow (18 + j.val) c.val) (minusRow (18 + j.val) c.val) := by
  unfold headW k0_pay14
  pointwise
  refine congrArg₂ (· + ·) (Finset.sum_congr rfl fun j _ => congrArg (cls (ix2 k j) * ·) ?_)
    (Finset.sum_congr rfl fun j _ => congrArg (reg (ix2 k j) * ·) ?_)
  · exact mix_apply ⟨j.val, by omega⟩ c
  · exact mix_apply ⟨18 + j.val, by omega⟩ c

/-- The head bias as two sums against the mixing matrix's rows. -/
theorem headB_sum (cls : Vec Ideal S1x18 .f32) (reg : Vec Ideal S1x36 .f32) (c : Fin 54) :
    headB cls reg (ix2 0 c) =
      (∑ j : Fin 18, cls (ix2 0 j) * sign (plusRow (0 + j.val) c.val) (minusRow (0 + j.val) c.val))
      + ∑ j : Fin 36, reg (ix2 0 j) * sign (plusRow (18 + j.val) c.val) (minusRow (18 + j.val) c.val) := by
  unfold headB k0_pay15
  pointwise
  refine congrArg₂ (· + ·) (Finset.sum_congr rfl fun j _ => congrArg (cls (ix2 0 j) * ·) ?_)
    (Finset.sum_congr rfl fun j _ => congrArg (reg (ix2 0 j) * ·) ?_)
  · exact mix_apply ⟨j.val, by omega⟩ c
  · exact mix_apply ⟨18 + j.val, by omega⟩ c

/-- A score's column of head weights is the score's own minus the other's. -/
theorem headW_score (cls : Vec Ideal S256x18 .f32) (reg : Vec Ideal S256x36 .f32) (k : Fin 256) (a : Fin 9) (s : Fin 2) :
    headW cls reg (ix2 k (scoreCh a s)) = cls (ix2 k (clsCol a s)) - cls (ix2 k (clsCol a (other s))) := by
  rw [headW_sum, sum_plus_minus (fun j => cls (ix2 k j)) 0 _ _ _ (score_plus a s) (score_minus a s) (score_ne a s),
    sum_none _ 18 _ (fun j => (score_none a s j).1) (fun j => (score_none a s j).2), add_zero]

/-- A box coordinate's column of head weights is the box head's. -/
theorem headW_box (cls : Vec Ideal S256x18 .f32) (reg : Vec Ideal S256x36 .f32) (k : Fin 256) (a : Fin 9) (d : Fin 4) :
    headW cls reg (ix2 k (boxCh a d)) = reg (ix2 k (regCol a d)) := by
  rw [headW_sum, sum_plus (fun j => reg (ix2 k j)) 18 _ _ (box_plus a d) (box_minus a d),
    sum_none _ 0 _ (fun j => (box_none a d j).1) (fun j => (box_none a d j).2), zero_add]

/-- A score's head bias is the score's own minus the other's. -/
theorem headB_score (cls : Vec Ideal S1x18 .f32) (reg : Vec Ideal S1x36 .f32) (a : Fin 9) (s : Fin 2) :
    headB cls reg (ix2 0 (scoreCh a s)) = cls (ix2 0 (clsCol a s)) - cls (ix2 0 (clsCol a (other s))) := by
  rw [headB_sum, sum_plus_minus (fun j => cls (ix2 0 j)) 0 _ _ _ (score_plus a s) (score_minus a s) (score_ne a s),
    sum_none _ 18 _ (fun j => (score_none a s j).1) (fun j => (score_none a s j).2), add_zero]

/-- A box coordinate's head bias is the box head's. -/
theorem headB_box (cls : Vec Ideal S1x18 .f32) (reg : Vec Ideal S1x36 .f32) (a : Fin 9) (d : Fin 4) :
    headB cls reg (ix2 0 (boxCh a d)) = reg (ix2 0 (regCol a d)) := by
  rw [headB_sum, sum_plus (fun j => reg (ix2 0 j)) 18 _ _ (box_plus a d) (box_minus a d),
    sum_none _ 0 _ (fun j => (box_none a d j).1) (fun j => (box_none a d j).2), zero_add]

end Cert.KernelIdeal.Own
-- ==== Proof.Chain.lean ====
module
public import proofs.«01_k».proof.Proof.Buffer
public import proofs.«01_k».proof.Proof.HeadWeights

@[expose] public section

noncomputable section

/-! The first tap buffer as the body fills it, from the image, chunk after chunk. -/

namespace Cert.KernelIdeal.Own

open Idealize.ShloMosaic Cert.KernelIdeal.Gen Cert.KernelIdeal.Gen.kernelRun0_A.sl

variable (c : Dev nD) (arg1 : Memref sig .tc .vmem S1x4096x256 .f32) (harg1 : arg1.IsWhole)
  (arg2 : Memref sig .tc .vmem S3x768x256 .f32) (harg2 : arg2.IsWhole) (arg3 : Memref sig .tc .vmem S1x256 .f32) (harg3 : arg3.IsWhole)
  (arg4 : Memref sig .tc .vmem S3x768x256 .f32) (harg4 : arg4.IsWhole) (arg5 : Memref sig .tc .vmem S1x256 .f32) (harg5 : arg5.IsWhole)
  (arg6 : Memref sig .tc .vmem S256x36 .f32) (harg6 : arg6.IsWhole) (arg7 : Memref sig .tc .vmem S1x36 .f32) (harg7 : arg7.IsWhole)
  (arg8 : Memref sig .tc .vmem S256x18 .f32) (harg8 : arg8.IsWhole) (arg9 : Memref sig .tc .vmem S1x18 .f32) (harg9 : arg9.IsWhole)
  (arg11 arg12 : Memref sig .tc .vmem S4256x768 .bf16)
  (x0 : Vec Ideal S1x4096x256 .f32) (x1 : Vec Ideal S3x768x256 .f32) (x2 : Vec Ideal S1x256 .f32) (x3 : Vec Ideal S3x768x256 .f32)
  (x4 : Vec Ideal S1x256 .f32) (x5 : Vec Ideal S256x36 .f32) (x6 : Vec Ideal S1x36 .f32) (x7 : Vec Ideal S256x18 .f32) (x8 : Vec Ideal S1x18 .f32)

/-! ## The first tap buffer: the image -/

/-- After the first two chunks. -/
theorem image_start : Good (tapBuf (pix x0)) (dom 1104 656 656) (HS0_6 c arg1 harg1 arg11 x0) :=
  ((((Good.zeros _ _ _ _ rfl rfl).stage 0 rfl (by norm_num) _ _ (stage_pix arg1 harg1 x0 0 _ _ rfl)).stage 512 rfl (by norm_num) _ _
    (stage_pix arg1 harg1 x0 512 _ _ rfl)).tapsFirst (by norm_num) arg11.view _ _ _ _ _ _ rfl rfl)

/-- After three chunks. -/
theorem image_3 : Good (tapBuf (pix x0)) (dom 1616 1168 1168) (HS0_9 c arg1 harg1 arg11 x0) :=
  (((image_start c arg1 harg1 arg11 x0).stage 1024 rfl (by norm_num) _ _ (stage_pix arg1 harg1 x0 1024 _ _ rfl)).taps 640 655 657
    rfl rfl rfl rfl (by norm_num) (by norm_num) arg11.view _ _ _ _ _ _ rfl rfl)

/-- After four chunks. -/
theorem image_4 : Good (tapBuf (pix x0)) (dom 2128 1680 1680) (HS0_12 c arg1 harg1 arg11 x0) :=
  (((image_3 c arg1 harg1 arg11 x0).stage 1536 rfl (by norm_num) _ _ (stage_pix arg1 harg1 x0 1536 _ _ rfl)).taps 1152 1167 1169
    rfl rfl rfl rfl (by norm_num) (by norm_num) arg11.view _ _ _ _ _ _ rfl rfl)

/-- After five chunks. -/
theorem image_5 : Good (tapBuf (pix x0)) (dom 2640 2192 2192) (HS0_15 c arg1 harg1 arg11 x0) :=
  (((image_4 c arg1 harg1 arg11 x0).stage 2048 rfl (by norm_num) _ _ (stage_pix arg1 harg1 x0 2048 _ _ rfl)).taps 1664 1679 1681
    rfl rfl rfl rfl (by norm_num) (by norm_num) arg11.view _ _ _ _ _ _ rfl rfl)

/-- After six chunks. -/
theorem image_6 : Good (tapBuf (pix x0)) (dom 3152 2704 2704) (HS0_18 c arg1 harg1 arg11 x0) :=
  (((image_5 c arg1 harg1 arg11 x0).stage 2560 rfl (by norm_num) _ _ (stage_pix arg1 harg1 x0 2560 _ _ rfl)).taps 2176 2191 2193
    rfl rfl rfl rfl (by norm_num) (by norm_num) arg11.view _ _ _ _ _ _ rfl rfl)

/-- After seven chunks. -/
theorem image_7 : Good (tapBuf (pix x0)) (dom 3664 3216 3216) (HS0_21 c arg1 harg1 arg11 x0) :=
  (((image_6 c arg1 harg1 arg11 x0).stage 3072 rfl (by norm_num) _ _ (stage_pix arg1 harg1 x0 3072 _ _ rfl)).taps 2688 2703 2705
    rfl rfl rfl rfl (by norm_num) (by norm_num) arg11.view _ _ _ _ _ _ rfl rfl)

/-- After eight chunks. -/
theorem image_8 : Good (tapBuf (pix x0)) (dom 4176 3728 3728) (HS0_24 c arg1 harg1 arg11 x0) :=
  (((image_7 c arg1 harg1 arg11 x0).stage 3584 rfl (by norm_num) _ _ (stage_pix arg1 harg1 x0 3584 _ _ rfl)).taps 3200 3215 3217
    rfl rfl rfl rfl (by norm_num) (by norm_num) arg11.view _ _ _ _ _ _ rfl rfl)

/-- The whole buffer. -/
theorem image_all : Good (tapBuf (pix x0)) (dom 4176 4240 4240) (HS0_26 c arg1 harg1 arg11 x0) :=
  (image_8 c arg1 harg1 arg11 x0).taps 3712 3727 3729 rfl rfl rfl rfl (by norm_num) (by norm_num) arg11.view _ _ _ _ _ _ rfl rfl

/-! ## The weights the body reads once -/

/-- The first convolution's weights. -/
theorem w1_eq : r c arg2 harg2 x1 = k0_pay2 (F := Ideal) x1 :=
  congrArg k0_pay2 (read_all arg2 harg2 x1 _ (Fin.forall_fin_succ.2 ⟨rfl, Fin.forall_fin_two.2 ⟨rfl, rfl⟩⟩) _)

/-- The first convolution's bias. -/
theorem b1_eq : r_8 (F := Ideal) c arg3 harg3 x2 = x2 := read_all arg3 harg3 x2 _ (Fin.forall_fin_two.2 ⟨rfl, rfl⟩) _

/-- The second convolution's weights. -/
theorem w2_eq : r_1 c arg4 harg4 x3 = k0_pay3 (F := Ideal) x3 :=
  congrArg k0_pay3 (read_all arg4 harg4 x3 _ (Fin.forall_fin_succ.2 ⟨rfl, Fin.forall_fin_two.2 ⟨rfl, rfl⟩⟩) _)

/-- The heads' weights. -/
theorem wc_eq : r_5 (F := Ideal) c arg6 harg6 arg8 harg8 x5 x7 = headW x7 x5 :=
  congrArg₂ headW (read_all arg8 harg8 x7 _ (Fin.forall_fin_two.2 ⟨rfl, rfl⟩) _) (read_all arg6 harg6 x5 _ (Fin.forall_fin_two.2 ⟨rfl, rfl⟩) _)

/-- The heads' bias. -/
theorem bc_eq : r_6 (F := Ideal) c arg7 harg7 arg9 harg9 x6 x8 = headB x8 x6 :=
  congrArg₂ headB (read_all arg9 harg9 x8 _ (Fin.forall_fin_two.2 ⟨rfl, rfl⟩) _) (read_all arg7 harg7 x6 _ (Fin.forall_fin_two.2 ⟨rfl, rfl⟩) _)

end Cert.KernelIdeal.Own
-- ==== Proof.Hidden.lean ====
module
public import proofs.«01_k».proof.Proof.Chain

@[expose] public section

noncomputable section

/-! The second tap buffer as the body fills it, from the results of the first convolution. -/

namespace Cert.KernelIdeal.Own

open Idealize.ShloMosaic Cert.KernelIdeal.Gen Cert.KernelIdeal.Gen.kernelRun0_A.sl

variable (c : Dev nD) (arg1 : Memref sig .tc .vmem S1x4096x256 .f32) (harg1 : arg1.IsWhole)
  (arg2 : Memref sig .tc .vmem S3x768x256 .f32) (harg2 : arg2.IsWhole) (arg3 : Memref sig .tc .vmem S1x256 .f32) (harg3 : arg3.IsWhole)
  (arg4 : Memref sig .tc .vmem S3x768x256 .f32) (harg4 : arg4.IsWhole) (arg5 : Memref sig .tc .vmem S1x256 .f32) (harg5 : arg5.IsWhole)
  (arg6 : Memref sig .tc .vmem S256x36 .f32) (harg6 : arg6.IsWhole) (arg7 : Memref sig .tc .vmem S1x36 .f32) (harg7 : arg7.IsWhole)
  (arg8 : Memref sig .tc .vmem S256x18 .f32) (harg8 : arg8.IsWhole) (arg9 : Memref sig .tc .vmem S1x18 .f32) (harg9 : arg9.IsWhole)
  (arg11 arg12 : Memref sig .tc .vmem S4256x768 .bf16)
  (x0 : Vec Ideal S1x4096x256 .f32) (x1 : Vec Ideal S3x768x256 .f32) (x2 : Vec Ideal S1x256 .f32) (x3 : Vec Ideal S3x768x256 .f32)
  (x4 : Vec Ideal S1x256 .f32) (x5 : Vec Ideal S256x36 .f32) (x6 : Vec Ideal S1x36 .f32) (x7 : Vec Ideal S256x18 .f32) (x8 : Vec Ideal S1x18 .f32)

/-! ## The second tap buffer: the first convolution -/

/-- The first chunk. -/
theorem hidden_chunk_1 (i : Fin 512) (k : Fin 256) :
    k0_pay27 (r_7 c arg1 harg1 arg2 harg2 arg11 x0 x1) (r_8 c arg3 harg3 x2) (ix2 i k) = conv (pix x0) x1 x2 (0 + i.val) k :=
  (image_start c arg1 harg1 arg11 x0).conv arg11.view 0 16 80 144 rfl rfl rfl (by norm_num) (by norm_num) _ _ _ x1 x2 _
    (w1_eq c arg2 harg2 x1) _ (b1_eq c arg3 harg3 x2) _
    (show k0_pay27 (r_7 c arg1 harg1 arg2 harg2 arg11 x0 x1) (r_8 c arg3 harg3 x2)
      = k0_pay43 (r c arg2 harg2 x1) (v177 c arg1 harg1 arg11 x0) (v181 c arg1 harg1 arg11 x0) (v186 c arg1 harg1 arg11 x0) (r_8 c arg3 harg3 x2) from rfl) i k

/-- The second chunk. -/
theorem hidden_chunk_2 (i : Fin 512) (k : Fin 256) :
    k0_pay34 (r_9 c arg1 harg1 arg2 harg2 arg3 harg3 arg11 x0 x1 x2) (ix2 i k) = conv (pix x0) x1 x2 (512 + i.val) k :=
  (image_3 c arg1 harg1 arg11 x0).conv arg11.view 512 528 592 656 rfl rfl rfl (by norm_num) (by norm_num) _ _ _ x1 x2 _
    (w1_eq c arg2 harg2 x1) _ (b1_eq c arg3 harg3 x2) _
    (show k0_pay34 (r_9 c arg1 harg1 arg2 harg2 arg3 harg3 arg11 x0 x1 x2)
      = k0_pay43 (r c arg2 harg2 x1) (v247 c arg1 harg1 arg11 x0) (v251 c arg1 harg1 arg11 x0) (v256 c arg1 harg1 arg11 x0) (r_8 c arg3 harg3 x2) from rfl) i k

/-- The third chunk. -/
theorem hidden_chunk_3 (i : Fin 512) (k : Fin 256) :
    k0_pay43 (r c arg2 harg2 x1) (v356 c arg1 harg1 arg11 x0) (v360 c arg1 harg1 arg11 x0) (v365 c arg1 harg1 arg11 x0) (r_8 c arg3 harg3 x2) (ix2 i k) = conv (pix x0) x1 x2 (1024 + i.val) k :=
  (image_4 c arg1 harg1 arg11 x0).conv arg11.view 1024 1040 1104 1168 rfl rfl rfl (by norm_num) (by norm_num) _ _ _ x1 x2 _
    (w1_eq c arg2 harg2 x1) _ (b1_eq c arg3 harg3 x2) _
    (show k0_pay43 (r c arg2 harg2 x1) (v356 c arg1 harg1 arg11 x0) (v360 c arg1 harg1 arg11 x0) (v365 c arg1 harg1 arg11 x0) (r_8 c arg3 harg3 x2)
      = k0_pay43 (r c arg2 harg2 x1) (v356 c arg1 harg1 arg11 x0) (v360 c arg1 harg1 arg11 x0) (v365 c arg1 harg1 arg11 x0) (r_8 c arg3 harg3 x2) from rfl) i k

/-- The fourth chunk. -/
theorem hidden_chunk_4 (i : Fin 512) (k : Fin 256) :
    k0_pay55 (r_13 c arg1 harg1 arg2 harg2 arg11 x0 x1) (r_8 c arg3 harg3 x2) (ix2 i k) = conv (pix x0) x1 x2 (1536 + i.val) k :=
  (image_5 c arg1 harg1 arg11 x0).conv arg11.view 1536 1552 1616 1680 rfl rfl rfl (by norm_num) (by norm_num) _ _ _ x1 x2 _
    (w1_eq c arg2 harg2 x1) _ (b1_eq c arg3 harg3 x2) _
    (show k0_pay55 (r_13 c arg1 harg1 arg2 harg2 arg11 x0 x1) (r_8 c arg3 harg3 x2)
      = k0_pay43 (r c arg2 harg2 x1) (v522 c arg1 harg1 arg11 x0) (v526 c arg1 harg1 arg11 x0) (v531 c arg1 harg1 arg11 x0) (r_8 c arg3 harg3 x2) from rfl) i k

/-- The fifth chunk. -/
theorem hidden_chunk_5 (i : Fin 512) (k : Fin 256) :
    k0_pay69 (r c arg2 harg2 x1) (r_15 c arg1 harg1 arg2 harg2 arg11 x0 x1) (v692 c arg1 harg1 arg11 x0) (v697 c arg1 harg1 arg11 x0) (r_8 c arg3 harg3 x2) (ix2 i k) = conv (pix x0) x1 x2 (2048 + i.val) k :=
  (image_6 c arg1 harg1 arg11 x0).conv arg11.view 2048 2064 2128 2192 rfl rfl rfl (by norm_num) (by norm_num) _ _ _ x1 x2 _
    (w1_eq c arg2 harg2 x1) _ (b1_eq c arg3 harg3 x2) _
    (show k0_pay69 (r c arg2 harg2 x1) (r_15 c arg1 harg1 arg2 harg2 arg11 x0 x1) (v692 c arg1 harg1 arg11 x0) (v697 c arg1 harg1 arg11 x0) (r_8 c arg3 harg3 x2)
      = k0_pay43 (r c arg2 harg2 x1) (v688 c arg1 harg1 arg11 x0) (v692 c arg1 harg1 arg11 x0) (v697 c arg1 harg1 arg11 x0) (r_8 c arg3 harg3 x2) from rfl) i k

/-- The sixth chunk. -/
theorem hidden_chunk_6 (i : Fin 512) (k : Fin 256) :
    k0_pay81 (r c arg2 harg2 x1) (v854 c arg1 harg1 arg11 x0) (v858 c arg1 harg1 arg11 x0) (v863 c arg1 harg1 arg11 x0) (r_8 c arg3 harg3 x2) (ix2 i k) = conv (pix x0) x1 x2 (2560 + i.val) k :=
  (image_7 c arg1 harg1 arg11 x0).conv arg11.view 2560 2576 2640 2704 rfl rfl rfl (by norm_num) (by norm_num) _ _ _ x1 x2 _
    (w1_eq c arg2 harg2 x1) _ (b1_eq c arg3 harg3 x2) _
    (show k0_pay81 (r c arg2 harg2 x1) (v854 c arg1 harg1 arg11 x0) (v858 c arg1 harg1 arg11 x0) (v863 c arg1 harg1 arg11 x0) (r_8 c arg3 harg3 x2)
      = k0_pay43 (r c arg2 harg2 x1) (v854 c arg1 harg1 arg11 x0) (v858 c arg1 harg1 arg11 x0) (v863 c arg1 harg1 arg11 x0) (r_8 c arg3 harg3 x2) from rfl) i k

/-- The seventh chunk. -/
theorem hidden_chunk_7 (i : Fin 512) (k : Fin 256) :
    k0_pay99 (r_24 c arg1 harg1 arg2 harg2 arg3 harg3 arg11 x0 x1 x2) (ix2 i k) = conv (pix x0) x1 x2 (3072 + i.val) k :=
  (image_8 c arg1 harg1 arg11 x0).conv arg11.view 3072 3088 3152 3216 rfl rfl rfl (by norm_num) (by norm_num) _ _ _ x1 x2 _
    (w1_eq c arg2 harg2 x1) _ (b1_eq c arg3 harg3 x2) _
    (show k0_pay99 (r_24 c arg1 harg1 arg2 harg2 arg3 harg3 arg11 x0 x1 x2)
      = k0_pay43 (r c arg2 harg2 x1) (v1020 c arg1 harg1 arg11 x0) (v1024 c arg1 harg1 arg11 x0) (v1029 c arg1 harg1 arg11 x0) (r_8 c arg3 harg3 x2) from rfl) i k

/-- The eighth chunk. -/
theorem hidden_chunk_8 (i : Fin 512) (k : Fin 256) :
    k0_pay113 (r_27 c arg1 harg1 arg2 harg2 arg3 harg3 arg11 x0 x1 x2) (ix2 i k) = conv (pix x0) x1 x2 (3584 + i.val) k :=
  (image_all c arg1 harg1 arg11 x0).conv arg11.view 3584 3600 3664 3728 rfl rfl rfl (by norm_num) (by norm_num) _ _ _ x1 x2 _
    (w1_eq c arg2 harg2 x1) _ (b1_eq c arg3 harg3 x2) _
    (show k0_pay113 (r_27 c arg1 harg1 arg2 harg2 arg3 harg3 arg11 x0 x1 x2)
      = k0_pay43 (r c arg2 harg2 x1) (v1180 c arg1 harg1 arg11 x0) (v1184 c arg1 harg1 arg11 x0) (v1189 c arg1 harg1 arg11 x0) (r_8 c arg3 harg3 x2) from rfl) i k

/-- After the first two chunks. -/
theorem hidden_start : Good (tapBuf (conv (pix x0) x1 x2)) (dom 1104 656 656)
    (⟨Rect.unit (s := S4256x768) ![16, 512] S640x256.size inb_S4256x768_S640x256_16_512,
      k0_pay38 (r_10 c arg1 harg1 arg2 harg2 arg3 harg3 arg11 arg12 x0 x1 x2)⟩ :: HS1_5 c arg1 harg1 arg2 harg2 arg3 harg3 arg11 arg12 x0 x1 x2) :=
  ((((Good.zeros _ _ _ _ rfl rfl).stage 0 rfl (by norm_num) _ _ (hidden_chunk_1 c arg1 harg1 arg2 harg2 arg3 harg3 arg11 x0 x1 x2)).stage 512 rfl (by norm_num) _ _
    (hidden_chunk_2 c arg1 harg1 arg2 harg2 arg3 harg3 arg11 x0 x1 x2)).tapsFirst (by norm_num) arg12.view _ _ _ _ _ _ rfl rfl)

/-- After three chunks. -/
theorem hidden_3 : Good (tapBuf (conv (pix x0) x1 x2)) (dom 1616 1168 1168) (HS1_9 c arg1 harg1 arg2 harg2 arg3 harg3 arg11 arg12 x0 x1 x2) :=
  (((hidden_start c arg1 harg1 arg2 harg2 arg3 harg3 arg11 arg12 x0 x1 x2).stage 1024 rfl (by norm_num) _ _
    (hidden_chunk_3 c arg1 harg1 arg2 harg2 arg3 harg3 arg11 x0 x1 x2)).taps 640 655 657
    rfl rfl rfl rfl (by norm_num) (by norm_num) arg12.view _ _ _ _ _ _ rfl rfl)

/-- After four chunks. -/
theorem hidden_4 : Good (tapBuf (conv (pix x0) x1 x2)) (dom 2128 1680 1680) (HS1_12 c arg1 harg1 arg2 harg2 arg3 harg3 arg11 arg12 x0 x1 x2) :=
  (((hidden_3 c arg1 harg1 arg2 harg2 arg3 harg3 arg11 arg12 x0 x1 x2).stage 1536 rfl (by norm_num) _ _
    (hidden_chunk_4 c arg1 harg1 arg2 harg2 arg3 harg3 arg11 x0 x1 x2)).taps 1152 1167 1169
    rfl rfl rfl rfl (by norm_num) (by norm_num) arg12.view _ _ _ _ _ _ rfl rfl)

/-- After five chunks. -/
theorem hidden_5 : Good (tapBuf (conv (pix x0) x1 x2)) (dom 2640 2192 2192) (HS1_15 c arg1 harg1 arg2 harg2 arg3 harg3 arg11 arg12 x0 x1 x2) :=
  (((hidden_4 c arg1 harg1 arg2 harg2 arg3 harg3 arg11 arg12 x0 x1 x2).stage 2048 rfl (by norm_num) _ _
    (hidden_chunk_5 c arg1 harg1 arg2 harg2 arg3 harg3 arg11 x0 x1 x2)).taps 1664 1679 1681
    rfl rfl rfl rfl (by norm_num) (by norm_num) arg12.view _ _ _ _ _ _ rfl rfl)

/-- After six chunks. -/
theorem hidden_6 : Good (tapBuf (conv (pix x0) x1 x2)) (dom 3152 2704 2704) (HS1_18 c arg1 harg1 arg2 harg2 arg3 harg3 arg11 arg12 x0 x1 x2) :=
  (((hidden_5 c arg1 harg1 arg2 harg2 arg3 harg3 arg11 arg12 x0 x1 x2).stage 2560 rfl (by norm_num) _ _
    (hidden_chunk_6 c arg1 harg1 arg2 harg2 arg3 harg3 arg11 x0 x1 x2)).taps 2176 2191 2193
    rfl rfl rfl rfl (by norm_num) (by norm_num) arg12.view _ _ _ _ _ _ rfl rfl)

/-- After seven chunks. -/
theorem hidden_7 : Good (tapBuf (conv (pix x0) x1 x2)) (dom 3664 3216 3216) (HS1_21 c arg1 harg1 arg2 harg2 arg3 harg3 arg11 arg12 x0 x1 x2) :=
  (((hidden_6 c arg1 harg1 arg2 harg2 arg3 harg3 arg11 arg12 x0 x1 x2).stage 3072 rfl (by norm_num) _ _
    (hidden_chunk_7 c arg1 harg1 arg2 harg2 arg3 harg3 arg11 x0 x1 x2)).taps 2688 2703 2705
    rfl rfl rfl rfl (by norm_num) (by norm_num) arg12.view _ _ _ _ _ _ rfl rfl)

/-- After eight chunks. -/
theorem hidden_8 : Good (tapBuf (conv (pix x0) x1 x2)) (dom 4176 3728 3728) (HS1_24 c arg1 harg1 arg2 harg2 arg3 harg3 arg11 arg12 x0 x1 x2) :=
  (((hidden_7 c arg1 harg1 arg2 harg2 arg3 harg3 arg11 arg12 x0 x1 x2).stage 3584 rfl (by norm_num) _ _
    (hidden_chunk_8 c arg1 harg1 arg2 harg2 arg3 harg3 arg11 x0 x1 x2)).taps 3200 3215 3217
    rfl rfl rfl rfl (by norm_num) (by norm_num) arg12.view _ _ _ _ _ _ rfl rfl)

/-- The whole buffer. -/
theorem hidden_all : Good (tapBuf (conv (pix x0) x1 x2)) (dom 4176 4240 4240) (HS1_26 c arg1 harg1 arg2 harg2 arg3 harg3 arg11 arg12 x0 x1 x2) :=
  (hidden_8 c arg1 harg1 arg2 harg2 arg3 harg3 arg11 arg12 x0 x1 x2).taps 3712 3727 3729 rfl rfl rfl rfl (by norm_num) (by norm_num) arg12.view _ _ _ _ _ _ rfl rfl

end Cert.KernelIdeal.Own
-- ==== Proof.Result.lean ====
module
public import proofs.«01_k».proof.Proof.Hidden
public import proofs.«01_k».proof.Proof.Gen.KernelIdeal.Frame

@[expose] public section

noncomputable section

/-! What the body leaves in the block of the result: two convolutions and the heads, at each pixel and channel of one image. -/

namespace Cert.KernelIdeal.Own

open Idealize.ShloMosaic Cert.KernelIdeal.Gen Cert.KernelIdeal.Gen.kernelRun0_A.sl

variable (c : Dev nD) (arg1 : Memref sig .tc .vmem S1x4096x256 .f32) (harg1 : arg1.IsWhole)
  (arg2 : Memref sig .tc .vmem S3x768x256 .f32) (harg2 : arg2.IsWhole) (arg3 : Memref sig .tc .vmem S1x256 .f32) (harg3 : arg3.IsWhole)
  (arg4 : Memref sig .tc .vmem S3x768x256 .f32) (harg4 : arg4.IsWhole) (arg5 : Memref sig .tc .vmem S1x256 .f32) (harg5 : arg5.IsWhole)
  (arg6 : Memref sig .tc .vmem S256x36 .f32) (harg6 : arg6.IsWhole) (arg7 : Memref sig .tc .vmem S1x36 .f32) (harg7 : arg7.IsWhole)
  (arg8 : Memref sig .tc .vmem S256x18 .f32) (harg8 : arg8.IsWhole) (arg9 : Memref sig .tc .vmem S1x18 .f32) (harg9 : arg9.IsWhole)
  (arg11 arg12 : Memref sig .tc .vmem S4256x768 .bf16)
  (x0 : Vec Ideal S1x4096x256 .f32) (x1 : Vec Ideal S3x768x256 .f32) (x2 : Vec Ideal S1x256 .f32) (x3 : Vec Ideal S3x768x256 .f32)
  (x4 : Vec Ideal S1x256 .f32) (x5 : Vec Ideal S256x36 .f32) (x6 : Vec Ideal S1x36 .f32) (x7 : Vec Ideal S256x18 .f32) (x8 : Vec Ideal S1x18 .f32)

/-! ## The result: the second convolution and the heads -/

/-- The second convolution's bias. -/
theorem b2_eq : View.readAt (Elt Ideal) arg5.view (Rect.unit ![0, 0] S1x256.size inb_S1x256_S1x256_0_0).toLoadRect (harg5.unread x4) = x4 :=
  read_all arg5 harg5 x4 _ (Fin.forall_fin_two.2 ⟨rfl, rfl⟩) _

/-- The result of one image, pixel by pixel and channel by channel: two convolutions and the heads. -/
def imageOut (x0 : Vec Ideal S1x4096x256 .f32) (x1 : Vec Ideal S3x768x256 .f32) (x2 : Vec Ideal S1x256 .f32) (x3 : Vec Ideal S3x768x256 .f32)
    (x4 : Vec Ideal S1x256 .f32) (x5 : Vec Ideal S256x36 .f32) (x6 : Vec Ideal S1x36 .f32) (x7 : Vec Ideal S256x18 .f32)
    (x8 : Vec Ideal S1x18 .f32) : Nat → Fin 54 → EReal :=
  head (conv (conv (pix x0) x1 x2) x3 x4) (headW x7 x5) (headB x8 x6)

/-- The first chunk. -/
theorem out_chunk_1 (i : Fin 512) (k : Fin 54) :
    k0_pay49 (r_12 c arg1 harg1 arg2 harg2 arg3 harg3 arg4 harg4 arg5 harg5 arg6 harg6 arg7 harg7 arg8 harg8 arg9 harg9 arg11 arg12 x0 x1 x2 x3 x4 x5 x6 x7 x8) k0_pay48 2#32 (ix3 0 i k)
      = imageOut x0 x1 x2 x3 x4 x5 x6 x7 x8 (0 + i.val) k :=
  (hidden_3 c arg1 harg1 arg2 harg2 arg3 harg3 arg11 arg12 x0 x1 x2).heads arg12.view 0 16 80 144 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay49 (r_12 c arg1 harg1 arg2 harg2 arg3 harg3 arg4 harg4 arg5 harg5 arg6 harg6 arg7 harg7 arg8 harg8 arg9 harg9 arg11 arg12 x0 x1 x2 x3 x4 x5 x6 x7 x8) k0_pay48 2#32
      = k0_pay74 (r_5 c arg6 harg6 arg8 harg8 x5 x7) (r_6 c arg7 harg7 arg9 harg9 x6 x8) (k0_pay73 (r_1 c arg4 harg4 x3)
        (v420 c arg1 harg1 arg2 harg2 arg3 harg3 arg11 arg12 x0 x1 x2) (v424 c arg1 harg1 arg2 harg2 arg3 harg3 arg11 arg12 x0 x1 x2) (v429 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

/-- The second chunk. -/
theorem out_chunk_2 (i : Fin 512) (k : Fin 54) :
    k0_pay61 (r_14 c arg1 harg1 arg2 harg2 arg3 harg3 arg4 harg4 arg5 harg5 arg6 harg6 arg7 harg7 arg8 harg8 arg9 harg9 arg11 arg12 x0 x1 x2 x3 x4 x5 x6 x7 x8) (6#32) k0_pay60 (ix3 0 i k)
      = imageOut x0 x1 x2 x3 x4 x5 x6 x7 x8 (512 + i.val) k :=
  (hidden_4 c arg1 harg1 arg2 harg2 arg3 harg3 arg11 arg12 x0 x1 x2).heads arg12.view 512 528 592 656 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay61 (r_14 c arg1 harg1 arg2 harg2 arg3 harg3 arg4 harg4 arg5 harg5 arg6 harg6 arg7 harg7 arg8 harg8 arg9 harg9 arg11 arg12 x0 x1 x2 x3 x4 x5 x6 x7 x8) (6#32) k0_pay60
      = k0_pay74 (r_5 c arg6 harg6 arg8 harg8 x5 x7) (r_6 c arg7 harg7 arg9 harg9 x6 x8) (k0_pay73 (r_1 c arg4 harg4 x3)
        (v586 c arg1 harg1 arg2 harg2 arg3 harg3 arg11 arg12 x0 x1 x2) (v590 c arg1 harg1 arg2 harg2 arg3 harg3 arg11 arg12 x0 x1 x2) (v595 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

/-- The third chunk. -/
theorem out_chunk_3 (i : Fin 512) (k : Fin 54) :
    k0_pay74 (r_5 c arg6 harg6 arg8 harg8 x5 x7) (r_6 c arg7 harg7 arg9 harg9 x6 x8) (r_16 c arg1 harg1 arg2 harg2 arg3 harg3 arg4 harg4 arg5 harg5 arg11 arg12 x0 x1 x2 x3 x4) (ix3 0 i k)
      = imageOut x0 x1 x2 x3 x4 x5 x6 x7 x8 (1024 + i.val) k :=
  (hidden_5 c arg1 harg1 arg2 harg2 arg3 harg3 arg11 arg12 x0 x1 x2).heads arg12.view 1024 1040 1104 1168 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay74 (r_5 c arg6 harg6 arg8 harg8 x5 x7) (r_6 c arg7 harg7 arg9 harg9 x6 x8) (r_16 c arg1 harg1 arg2 harg2 arg3 harg3 arg4 harg4 arg5 harg5 arg11 arg12 x0 x1 x2 x3 x4)
      = k0_pay74 (r_5 c arg6 harg6 arg8 harg8 x5 x7) (r_6 c arg7 harg7 arg9 harg9 x6 x8) (k0_pay73 (r_1 c arg4 harg4 x3)
        (v752 c arg1 harg1 arg2 harg2 arg3 harg3 arg11 arg12 x0 x1 x2) (v756 c arg1 harg1 arg2 harg2 arg3 harg3 arg11 arg12 x0 x1 x2) (v761 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

/-- The fourth chunk. -/
theorem out_chunk_4 (i : Fin 512) (k : Fin 54) :
    k0_pay92 (r_21 c arg1 harg1 arg2 harg2 arg3 harg3 arg4 harg4 arg5 harg5 arg6 harg6 arg7 harg7 arg8 harg8 arg9 harg9 arg11 arg12 x0 x1 x2 x3 x4 x5 x6 x7 x8) k0_pay90 (r_22 c arg1 harg1 arg2 harg2 arg3 harg3 arg4 harg4 arg5 harg5 arg6 harg6 arg7 harg7 arg8 harg8 arg9 harg9 arg11 arg12 x0 x1 x2 x3 x4 x5 x6 x7 x8) (ix3 0 i k)
      = imageOut x0 x1 x2 x3 x4 x5 x6 x7 x8 (1536 + i.val) k :=
  (hidden_6 c arg1 harg1 arg2 harg2 arg3 harg3 arg11 arg12 x0 x1 x2).heads arg12.view 1536 1552 1616 1680 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay92 (r_21 c arg1 harg1 arg2 harg2 arg3 harg3 arg4 harg4 arg5 harg5 arg6 harg6 arg7 harg7 arg8 harg8 arg9 harg9 arg11 arg12 x0 x1 x2 x3 x4 x5 x6 x7 x8) k0_pay90 (r_22 c arg1 harg1 arg2 harg2 arg3 harg3 arg4 harg4 arg5 harg5 arg6 harg6 arg7 harg7 arg8 harg8 arg9 harg9 arg11 arg12 x0 x1 x2 x3 x4 x5 x6 x7 x8)
      = k0_pay74 (r_5 c arg6 harg6 arg8 harg8 x5 x7) (r_6 c arg7 harg7 arg9 harg9 x6 x8) (k0_pay73 (r_1 c arg4 harg4 x3)
        (v918 c arg1 harg1 arg2 harg2 arg3 harg3 arg11 arg12 x0 x1 x2) (v922 c arg1 harg1 arg2 harg2 arg3 harg3 arg11 arg12 x0 x1 x2) (v927 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

/-- The fifth chunk. -/
theorem out_chunk_5 (i : Fin 512) (k : Fin 54) :
    k0_pay107 (r_26 c arg1 harg1 arg2 harg2 arg3 harg3 arg4 harg4 arg5 harg5 arg6 harg6 arg7 harg7 arg8 harg8 arg9 harg9 arg11 arg12 x0 x1 x2 x3 x4 x5 x6 x7 x8) (6#32) k0_pay105 k0_pay106 (ix3 0 i k)
      = imageOut x0 x1 x2 x3 x4 x5 x6 x7 x8 (2048 + i.val) k :=
  (hidden_7 c arg1 harg1 arg2 harg2 arg3 harg3 arg11 arg12 x0 x1 x2).heads arg12.view 2048 2064 2128 2192 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay107 (r_26 c arg1 harg1 arg2 harg2 arg3 harg3 arg4 harg4 arg5 harg5 arg6 harg6 arg7 harg7 arg8 harg8 arg9 harg9 arg11 arg12 x0 x1 x2 x3 x4 x5 x6 x7 x8) (6#32) k0_pay105 k0_pay106
      = k0_pay74 (r_5 c arg6 harg6 arg8 harg8 x5 x7) (r_6 c arg7 harg7 arg9 harg9 x6 x8) (k0_pay73 (r_1 c arg4 harg4 x3)
        (v1084 c arg1 harg1 arg2 harg2 arg3 harg3 arg11 arg12 x0 x1 x2) (v1088 c arg1 harg1 arg2 harg2 arg3 harg3 arg11 arg12 x0 x1 x2) (v1093 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

/-- The sixth chunk. -/
theorem out_chunk_6 (i : Fin 512) (k : Fin 54) :
    k0_pay122 (r_29 c arg1 harg1 arg2 harg2 arg3 harg3 arg4 harg4 arg5 harg5 arg6 harg6 arg7 harg7 arg8 harg8 arg9 harg9 arg11 arg12 x0 x1 x2 x3 x4 x5 x6 x7 x8) (6#32) k0_pay119 k0_pay120 k0_pay121 0#1 (ix3 0 i k)
      = imageOut x0 x1 x2 x3 x4 x5 x6 x7 x8 (2560 + i.val) k :=
  (hidden_8 c arg1 harg1 arg2 harg2 arg3 harg3 arg11 arg12 x0 x1 x2).heads arg12.view 2560 2576 2640 2704 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay122 (r_29 c arg1 harg1 arg2 harg2 arg3 harg3 arg4 harg4 arg5 harg5 arg6 harg6 arg7 harg7 arg8 harg8 arg9 harg9 arg11 arg12 x0 x1 x2 x3 x4 x5 x6 x7 x8) (6#32) k0_pay119 k0_pay120 k0_pay121 0#1
      = k0_pay74 (r_5 c arg6 harg6 arg8 harg8 x5 x7) (r_6 c arg7 harg7 arg9 harg9 x6 x8) (k0_pay73 (r_1 c arg4 harg4 x3)
        (v1244 c arg1 harg1 arg2 harg2 arg3 harg3 arg11 arg12 x0 x1 x2) (v1248 c arg1 harg1 arg2 harg2 arg3 harg3 arg11 arg12 x0 x1 x2) (v1253 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

/-- The seventh chunk. -/
theorem out_chunk_7 (i : Fin 512) (k : Fin 54) :
    k0_pay127 (r_5 c arg6 harg6 arg8 harg8 x5 x7) (r_6 c arg7 harg7 arg9 harg9 x6 x8) (r_30 c arg1 harg1 arg2 harg2 arg3 harg3 arg4 harg4 arg5 harg5 arg11 arg12 x0 x1 x2 x3 x4) (ix3 0 i k)
      = imageOut x0 x1 x2 x3 x4 x5 x6 x7 x8 (3072 + i.val) k :=
  (hidden_all c arg1 harg1 arg2 harg2 arg3 harg3 arg11 arg12 x0 x1 x2).heads arg12.view 3072 3088 3152 3216 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay127 (r_5 c arg6 harg6 arg8 harg8 x5 x7) (r_6 c arg7 harg7 arg9 harg9 x6 x8) (r_30 c arg1 harg1 arg2 harg2 arg3 harg3 arg4 harg4 arg5 harg5 arg11 arg12 x0 x1 x2 x3 x4)
      = k0_pay74 (r_5 c arg6 harg6 arg8 harg8 x5 x7) (r_6 c arg7 harg7 arg9 harg9 x6 x8) (k0_pay73 (r_1 c arg4 harg4 x3)
        (v1340 c arg1 harg1 arg2 harg2 arg3 harg3 arg11 arg12 x0 x1 x2) (v1344 c arg1 harg1 arg2 harg2 arg3 harg3 arg11 arg12 x0 x1 x2) (v1349 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

/-- The eighth chunk. -/
theorem out_chunk_8 (i : Fin 512) (k : Fin 54) :
    k0_pay1 (r_32 c arg1 harg1 arg2 harg2 arg3 harg3 arg4 harg4 arg5 harg5 arg6 harg6 arg7 harg7 arg8 harg8 arg9 harg9 arg11 arg12 x0 x1 x2 x3 x4 x5 x6 x7 x8) k0_pay130 k0_pay131 (ix3 0 i k)
      = imageOut x0 x1 x2 x3 x4 x5 x6 x7 x8 (3584 + i.val) k :=
  (hidden_all c arg1 harg1 arg2 harg2 arg3 harg3 arg11 arg12 x0 x1 x2).heads arg12.view 3584 3600 3664 3728 rfl rfl rfl (by norm_num) (by norm_num) _ _ _ x3 x4 _
    (w2_eq c arg4 harg4 x3) _ (b2_eq arg5 harg5 x4) _ _ _ (wc_eq c arg6 harg6 arg8 harg8 x5 x7) _ (bc_eq c arg7 harg7 arg9 harg9 x6 x8) _
    (show k0_pay1 (r_32 c arg1 harg1 arg2 harg2 arg3 harg3 arg4 harg4 arg5 harg5 arg6 harg6 arg7 harg7 arg8 harg8 arg9 harg9 arg11 arg12 x0 x1 x2 x3 x4 x5 x6 x7 x8) k0_pay130 k0_pay131
      = k0_pay74 (r_5 c arg6 harg6 arg8 harg8 x5 x7) (r_6 c arg7 harg7 arg9 harg9 x6 x8) (k0_pay73 (r_1 c arg4 harg4 x3)
        (v1397 c arg1 harg1 arg2 harg2 arg3 harg3 arg11 arg12 x0 x1 x2) (v1401 c arg1 harg1 arg2 harg2 arg3 harg3 arg11 arg12 x0 x1 x2) (v1406 c arg1 harg1 arg2 harg2 arg3 harg3 arg11 arg12 x0 x1 x2)
        (View.readAt (Elt Ideal) arg5.view (Rect.unit ![0, 0] S1x256.size inb_S1x256_S1x256_0_0).toLoadRect (harg5.unread x4))) from rfl) i k

variable (i : grid0.Coords) (arg10 : Memref sig .tc .vmem S1x4096x54 .f32) (harg10 : arg10.IsWhole) (harg11 : arg11.IsWhole) (harg12 : arg12.IsWhole)

/-- The eight writes of the result. -/
theorem out_good : Good (outBuf (imageOut x0 x1 x2 x3 x4 x5 x6 x7 x8)) (fun y => (y 1).val < 4096)
    (kernelRun0_A (F := Ideal) c i arg1 harg1 arg2 harg2 arg3 harg3 arg4 harg4 arg5 harg5 arg6 harg6 arg7 harg7 arg8 harg8 arg9 harg9
      arg10 harg10 arg11 harg11 arg12 harg12 x0 x1 x2 x3 x4 x5 x6 x7 x8).1 := by
  have h : Good (outBuf (imageOut x0 x1 x2 x3 x4 x5 x6 x7 x8)) (fun y => (y 1).val < 0) [] := fun _ h => absurd h (Nat.not_lt_zero _)
  unfold kernelRun0_A
  exact ((((((((h.out _ _
    (out_chunk_1 c arg1 harg1 arg2 harg2 arg3 harg3 arg4 harg4 arg5 harg5 arg6 harg6 arg7 harg7 arg8 harg8 arg9 harg9 arg11 arg12 x0 x1 x2 x3 x4 x5 x6 x7 x8)).out _ _
    (out_chunk_2 c arg1 harg1 arg2 harg2 arg3 harg3 arg4 harg4 arg5 harg5 arg6 harg6 arg7 harg7 arg8 harg8 arg9 harg9 arg11 arg12 x0 x1 x2 x3 x4 x5 x6 x7 x8)).out _ _
    (out_chunk_3 c arg1 harg1 arg2 harg2 arg3 harg3 arg4 harg4 arg5 harg5 arg6 harg6 arg7 harg7 arg8 harg8 arg9 harg9 arg11 arg12 x0 x1 x2 x3 x4 x5 x6 x7 x8)).out _ _
    (out_chunk_4 c arg1 harg1 arg2 harg2 arg3 harg3 arg4 harg4 arg5 harg5 arg6 harg6 arg7 harg7 arg8 harg8 arg9 harg9 arg11 arg12 x0 x1 x2 x3 x4 x5 x6 x7 x8)).out _ _
    (out_chunk_5 c arg1 harg1 arg2 harg2 arg3 harg3 arg4 harg4 arg5 harg5 arg6 harg6 arg7 harg7 arg8 harg8 arg9 harg9 arg11 arg12 x0 x1 x2 x3 x4 x5 x6 x7 x8)).out _ _
    (out_chunk_6 c arg1 harg1 arg2 harg2 arg3 harg3 arg4 harg4 arg5 harg5 arg6 harg6 arg7 harg7 arg8 harg8 arg9 harg9 arg11 arg12 x0 x1 x2 x3 x4 x5 x6 x7 x8)).out _ _
    (out_chunk_7 c arg1 harg1 arg2 harg2 arg3 harg3 arg4 harg4 arg5 harg5 arg6 harg6 arg7 harg7 arg8 harg8 arg9 harg9 arg11 arg12 x0 x1 x2 x3 x4 x5 x6 x7 x8)).out _ _
    (out_chunk_8 c arg1 harg1 arg2 harg2 arg3 harg3 arg4 harg4 arg5 harg5 arg6 harg6 arg7 harg7 arg8 harg8 arg9 harg9 arg11 arg12 x0 x1 x2 x3 x4 x5 x6 x7 x8))

/-- What the body leaves in the result's staging buffer. -/
theorem out_eq : out0_A_9 (F := Ideal) c i arg1 harg1 arg2 harg2 arg3 harg3 arg4 harg4 arg5 harg5 arg6 harg6 arg7 harg7 arg8 harg8 arg9 harg9
      arg10 harg10 arg11 harg11 arg12 harg12 x0 x1 x2 x3 x4 x5 x6 x7 x8 = outBuf (imageOut x0 x1 x2 x3 x4 x5 x6 x7 x8) := by
  unfold out0_A_9
  rw [View.read_writes_junk_eq_canon]
  funext y
  exact out_good c arg1 harg1 arg2 harg2 arg3 harg3 arg4 harg4 arg5 harg5 arg6 harg6 arg7 harg7 arg8 harg8 arg9 harg9 arg11 arg12
    x0 x1 x2 x3 x4 x5 x6 x7 x8 i arg10 harg10 harg11 harg12 y (y 1).isLt

end Cert.KernelIdeal.Own
-- ==== Proof.Launch.lean ====
module
public import proofs.«01_k».proof.Proof.Result
public import Idealize.ShloMosaic.Lib.Pipeline.ValueKit

@[expose] public section

noncomputable section

/-! The kernel's result array as one function of its nine arguments: the grid's two points each leave one image of
    the result, and the lines of the host after the call only rename its indices. -/

namespace Cert.KernelIdeal.Own

open Cert.KernelIdeal Cert.KernelIdeal.Gen Idealize.ShloMosaic Idealize.ShloMosaic.TcCoe Idealize.SL.Sem

variable (m : (ℓ : Loc nD τ sig) → Buf (Elt Ideal) ℓ)

/-! ### The arguments as the call finds them -/

/-- The call finds each argument under its flat indices. -/
theorem V_arguments (c : Dev nD) :
    V m c main_v0 = shapeCast S2x4096x256 (m ((c : Thread nD τ).loc main_arg0)) shapeCasts_S2x64x64x256_S2x4096x256
    ∧ V m c main_v1 = shapeCast S3x768x256 (m ((c : Thread nD τ).loc main_arg1)) shapeCasts_S3x3x256x256_S3x768x256
    ∧ V m c main_v3 = shapeCast S1x256 (m ((c : Thread nD τ).loc main_arg2)) shapeCasts_S256_S1x256
    ∧ V m c main_v2 = shapeCast S3x768x256 (m ((c : Thread nD τ).loc main_arg3)) shapeCasts_S3x3x256x256_S3x768x256
    ∧ V m c main_v4 = shapeCast S1x256 (m ((c : Thread nD τ).loc main_arg4)) shapeCasts_S256_S1x256
    ∧ V m c main_v5 = shapeCast S256x36 (m ((c : Thread nD τ).loc main_arg5)) shapeCasts_S1x1x256x36_S256x36
    ∧ V m c main_v6 = shapeCast S1x36 (m ((c : Thread nD τ).loc main_arg6)) shapeCasts_S36_S1x36
    ∧ V m c main_v7 = shapeCast S256x18 (m ((c : Thread nD τ).loc main_arg7)) shapeCasts_S1x1x256x18_S256x18
    ∧ V m c main_v8 = shapeCast S1x18 (m ((c : Thread nD τ).loc main_arg8)) shapeCasts_S18_S1x18 := by
  unfold V V0
  simp only [hostOps0, List.flatten_cons, List.flatten_nil, List.append_nil]
  refine ⟨?_, ?_, ?_, ?_, ?_, ?_, ?_, ?_, ?_⟩ <;> after_results <;> rfl

/-! ### The blocks of the two grid points -/

/-- Which blocks a grid point works on: image `t` of the images and of the result, the whole of everything else. -/
theorem index_images : ∀ t : Fin cfg0.N, win0_0.index t = ![t.val, 0, 0] ∧ win0_9.index t = ![t.val, 0, 0] :=
  (by decide +kernel : ∀ t : Fin grid0.N, _)
/-- The weights and the biases of a grid point. -/
theorem index_whole : ∀ t : Fin cfg0.N, win0_1.index t = ![0, 0, 0] ∧ win0_2.index t = ![0, 0] ∧ win0_3.index t = ![0, 0, 0]
    ∧ win0_4.index t = ![0, 0] ∧ win0_5.index t = ![0, 0] ∧ win0_6.index t = ![0, 0] ∧ win0_7.index t = ![0, 0]
    ∧ win0_8.index t = ![0, 0] :=
  (by decide +kernel : ∀ t : Fin grid0.N, _)

/-- Image `t` of a block of images. -/
def image (x : Vec Ideal S2x4096x256 .f32) (t : Fin 2) : Vec Ideal S1x4096x256 .f32 :=
  fun y => x (ix3 t (y 1) (y 2))

/-- A grid point reads its own image. -/
theorem block_image (c : Dev nD) (t : Fin cfg0.N) : iblk m c 0 t = image (V m c main_v0) t := by
  funext y
  unfold iblk image
  blk_simp
  have e := (index_images t).1
  refine congrArg (V m c main_v0) ?_
  blk_ext [e]

/-- It reads the whole of every weight and bias. -/
theorem block_whole (c : Dev nD) (t : Fin cfg0.N) : iblk m c 1 t = V m c main_v1 ∧ iblk m c 2 t = V m c main_v3
    ∧ iblk m c 3 t = V m c main_v2 ∧ iblk m c 4 t = V m c main_v4 ∧ iblk m c 5 t = V m c main_v5
    ∧ iblk m c 6 t = V m c main_v6 ∧ iblk m c 7 t = V m c main_v7 ∧ iblk m c 8 t = V m c main_v8 := by
  obtain ⟨e1, e2, e3, e4, e5, e6, e7, e8⟩ := index_whole t
  unfold iblk
  refine ⟨?_, ?_, ?_, ?_, ?_, ?_, ?_, ?_⟩ <;> funext y <;> blk_simp <;> refine congrArg (V m c _) ?_ <;>
    blk_ext [e1, e2, e3, e4, e5, e6, e7, e8]

/-! ### The result -/

/-- The call's result at image `b`, pixel `p`, channel `k`, of the arguments under their flat indices. -/
def flatOut (x0 : Vec Ideal S2x4096x256 .f32) (x1 : Vec Ideal S3x768x256 .f32) (x2 : Vec Ideal S1x256 .f32)
    (x3 : Vec Ideal S3x768x256 .f32) (x4 : Vec Ideal S1x256 .f32) (x5 : Vec Ideal S256x36 .f32) (x6 : Vec Ideal S1x36 .f32)
    (x7 : Vec Ideal S256x18 .f32) (x8 : Vec Ideal S1x18 .f32) : Vec Ideal S2x4096x54 .f32 :=
  fun j => imageOut (image x0 (j 0)) x1 x2 x3 x4 x5 x6 x7 x8 (j 1).val (j 2)

/-- The array of the call's result after both grid points. -/
theorem flat_array (c : Dev nD) : (dats m 0 c).arrAt 9 cfg0.N
    = flatOut (V m c main_v0) (V m c main_v1) (V m c main_v3) (V m c main_v2) (V m c main_v4) (V m c main_v5)
        (V m c main_v6) (V m c main_v7) (V m c main_v8) := by
  refine (dats m 0 c).arrAt_eq_of_covers 9 _ (by decide +kernel) fun t hf y => ?_
  blk_simp
  rw [after0_9]
  unfold outsAt0
  obtain ⟨b1, b2, b3, b4, b5, b6, b7, b8⟩ := block_whole m c t
  rw [out_eq, block_image, b1, b2, b3, b4, b5, b6, b7, b8]
  have e := (index_images t).2
  have e0 : (win0_9.blk t).view.emb y = ix3 t (y 1) (y 2) := by blk_ext [e]
  rw [show ((cfg0.win 9).blk t).view.emb y = ix3 t (y 1) (y 2) from e0]
  rfl

/-- The kernel's result, of its nine arguments. -/
def result (x0 : Vec Ideal S2x64x64x256 .f32) (x1 : Vec Ideal S3x3x256x256 .f32) (x2 : Vec Ideal S256 .f32)
    (x3 : Vec Ideal S3x3x256x256 .f32) (x4 : Vec Ideal S256 .f32) (x5 : Vec Ideal S1x1x256x36 .f32) (x6 : Vec Ideal S36 .f32)
    (x7 : Vec Ideal S1x1x256x18 .f32) (x8 : Vec Ideal S18 .f32) : Vec Ideal S2x64x64x9x6 .f32 :=
  shapeCast S2x64x64x9x6
    (flatOut (shapeCast S2x4096x256 x0 shapeCasts_S2x64x64x256_S2x4096x256)
      (shapeCast S3x768x256 x1 shapeCasts_S3x3x256x256_S3x768x256) (shapeCast S1x256 x2 shapeCasts_S256_S1x256)
      (shapeCast S3x768x256 x3 shapeCasts_S3x3x256x256_S3x768x256) (shapeCast S1x256 x4 shapeCasts_S256_S1x256)
      (shapeCast S256x36 x5 shapeCasts_S1x1x256x36_S256x36) (shapeCast S1x36 x6 shapeCasts_S36_S1x36)
      (shapeCast S256x18 x7 shapeCasts_S1x1x256x18_S256x18) (shapeCast S1x18 x8 shapeCasts_S18_S1x18))
    shapeCasts_S2x4096x54_S2x64x64x9x6

/-- What the host's last line leaves in the result's array. -/
theorem W_result (c : Dev nD) : Pipeline.afterTail₀ cfgs (dats m) 0 (V0 m) [hostOps1] c main_v10
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  have h := flat_array m c
  obtain ⟨v0, v1, v2, v3, v4, v5, v6, v7, v8⟩ := V_arguments m c
  rw [v0, v1, v2, v3, v4, v5, v6, v7, v8] at h
  have hw := Pipeline.withArrays_arr (win := spec0) (τ := τ) (Val := Elt Ideal) winFacts0.arr_inj c (V0 m c)
    (fun w => (dats m 0 c).arrAt w cfg0.N) 9
  rw [h] at hw
  unfold Pipeline.afterTail₀
  simp only [hostOps1, List.flatten_cons, List.flatten_nil, List.append_nil]
  after_results
  unfold result
  exact congrArg (fun z => shapeCast S2x64x64x9x6 z shapeCasts_S2x4096x54_S2x64x64x9x6) hw

/-- Every run of the kernel ends with its result at `result` of the arguments, which are as they were. -/
theorem run (ρ : Dev nD → PrngReg) : θ_run defs (onTc (τ := τ) (main (F := Ideal))) ⟨m, fun _ => 0, ρ⟩ fun r => ∀ c : Dev nD,
      r.2.mem ((c : Thread nD τ).loc main_v10)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8)) :=
  (θ_run defs _ _).mono (fun _ h c => ((h c).2 main_v10 (by decide)).trans (W_result m c)) (run_main m ρ)

end Cert.KernelIdeal.Own
-- ==== Proof.Match.lean ====
module
public import proofs.«01_k».proof.Proof.Agree
public import proofs.«01_k».proof.Proof.Heads
public import proofs.«01_k».proof.Proof.Launch

@[expose] public section

noncomputable section

/-! The kernel's result is the reference's, whenever the pictures, the weights and biases of the convolutions and those of
    the score head are real. -/

namespace Cert.KernelIdeal.Own

open Idealize.ShloMosaic Cert.KernelIdeal Cert.KernelIdeal.Gen
open Cert.ReferenceIdeal.Own (pixels box_apply score_apply share_apply joined_score joined_box)
open Cert.ReferenceIdeal.Read (val_main_v101 val_main_v113 val_main_v125)

/-! ### What stays real -/

/-- A layer of real pixels, weights and biases is real. -/
theorem conv_real {f : Nat → Fin 256 → EReal} (hf : ∀ p c, IsReal (f p c)) {w : Vec Ideal S3x768x256 .f32} (hw : ∀ i, IsReal (w i))
    {v : Vec Ideal S1x256 .f32} (hv : ∀ i, IsReal (v i)) (p : Nat) (c : Fin 256) : IsReal (conv f w v p c) := by
  have hc (row : Nat) (c : Fin 256) : IsReal (ctr f row c) := by
    unfold ctr
    split
    · exact hf _ _
    · exact IsReal.zero
  have hb (row q : Nat) : IsReal (band f row q) := by
    unfold band
    repeat' split
    · exact IsReal.zero
    · exact hc _ _
    · exact hc _ _
    · exact IsReal.zero
    · exact hc _ _
  unfold conv preconv
  exact ((((IsReal.sum _ fun k => (hb _ _).mul (hw _)).add (IsReal.sum _ fun k => (hb _ _).mul (hw _))).add
    (IsReal.sum _ fun k => (hb _ _).mul (hw _))).add (hv _)).max IsReal.zero

/-- Real values under other indices are real. -/
theorem cast_real {s t : Shape} (x : Vec Ideal s .f32) (h : s.ShapeCasts t) (hx : ∀ i, IsReal (x i)) (j : t.Idx) :
    IsReal (shapeCast t x h j) := hx _

variable (x0 : Vec Ideal S2x64x64x256 .f32) (x1 : Vec Ideal S3x3x256x256 .f32) (x2 : Vec Ideal S256 .f32)
  (x3 : Vec Ideal S3x3x256x256 .f32) (x4 : Vec Ideal S256 .f32) (x5 : Vec Ideal S1x1x256x36 .f32) (x6 : Vec Ideal S36 .f32)
  (x7 : Vec Ideal S1x1x256x18 .f32) (x8 : Vec Ideal S18 .f32)

/-- The features of the reference are real. -/
theorem features_real (h0 : ∀ i, IsReal (x0 i)) (h1 : ∀ i, IsReal (x1 i)) (h2 : ∀ i, IsReal (x2 i)) (h3 : ∀ i, IsReal (x3 i))
    (h4 : ∀ i, IsReal (x4 i)) (b : Fin 2) (y x : Fin 64) (c : Fin 256) :
    IsReal (val_main_v101 (F := Ideal) x0 x1 x2 x3 x4 (ix4 b y x c)) := by
  rw [features x0 x1 x2 x3 x4 shapeCasts_S3x3x256x256_S3x768x256 shapeCasts_S3x3x256x256_S3x768x256 shapeCasts_S256_S1x256
    shapeCasts_S256_S1x256]
  refine conv_real (conv_real (fun p c => ?_) (cast_real x1 _ h1) (cast_real x2 _ h2)) (cast_real x3 _ h3) (cast_real x4 _ h4) _ _
  unfold pixels
  split
  · exact h0 _
  · exact IsReal.zero

/-- The scores of the reference are real. -/
theorem scores_real (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i)) (i : Cert.ReferenceIdeal.S2x64x64x9x2.Idx) :
    IsReal (val_main_v113 (F := Ideal) x0 x1 x2 x3 x4 x7 x8 i) := by
  have e : i = ix5 (i 0) (i 1) (i 2) (i 3) (i 4) :=
    funext fun a => match a with | ⟨0, _⟩ => rfl | ⟨1, _⟩ => rfl | ⟨2, _⟩ => rfl | ⟨3, _⟩ => rfl | ⟨4, _⟩ => rfl
  rw [e]
  refine (congrArg IsReal (score_apply x0 x1 x2 x3 x4 x7 x8 (i 0) (i 1) (i 2) (i 3) (i 4) (clsCol (i 3) (i 4)) rfl)).mpr ?_
  exact (IsReal.sum _ fun k => (features_real x0 x1 x2 x3 x4 h0 h1 h2 h3 h4 _ _ _ k).mul (h7 _)).add (h8 _)

/-! ### The kernel's result at an index -/

/-- The features of the kernel are the reference's. -/
theorem kernel_features (b : Fin 2) (y x : Fin 64) (k : Fin 256) :
    conv (conv (pix (image (shapeCast S2x4096x256 x0 shapeCasts_S2x64x64x256_S2x4096x256) b))
        (shapeCast S3x768x256 x1 shapeCasts_S3x3x256x256_S3x768x256) (shapeCast S1x256 x2 shapeCasts_S256_S1x256))
        (shapeCast S3x768x256 x3 shapeCasts_S3x3x256x256_S3x768x256) (shapeCast S1x256 x4 shapeCasts_S256_S1x256)
        (64 * y.val + x.val) k
      = val_main_v101 (F := Ideal) x0 x1 x2 x3 x4 (ix4 b y x k) := by
  rw [features x0 x1 x2 x3 x4 shapeCasts_S3x3x256x256_S3x768x256 shapeCasts_S3x3x256x256_S3x768x256 shapeCasts_S256_S1x256
    shapeCasts_S256_S1x256]
  refine congrArg (fun f => conv f _ _ _ _) (conv_congr (fun p hp c => ?_) _ _)
  unfold pix pixels image
  rw [dif_pos hp, dif_pos hp]
  refine shapeCast_apply x0 _ _ _ ?_
  rw [Shape.rowMajor_val_three, Shape.rowMajor_val_four]
  show ((b.val * 64 + p / 64) * 64 + p % 64) * 256 + c.val = (b.val * 4096 + p) * 256 + c.val
  omega

/-- The heads depend on the features of their pixel only. -/
theorem head_congr {f g : Nat → Fin 256 → EReal} {p r : Nat} (h : ∀ k, f p k = g r k) (wc : FVec Ideal S256x54 .bf16)
    (bc : FVec Ideal S1x54 .f32) (c : Fin 54) : head f wc bc p c = head g wc bc r c := by
  have e : f p = g r := funext h
  unfold head
  rw [e]

/-- The kernel's result at image `b`, row `y`, column `x`, anchor `a` and place `q`. -/
theorem result_apply (b : Fin 2) (y x : Fin 64) (a : Fin 9) (q : Fin 6) (ch : Fin 54) (h : ch.val = 6 * a.val + q.val) :
    result x0 x1 x2 x3 x4 x5 x6 x7 x8 (ix5 b y x a q)
      = head (fun _ k => val_main_v101 (F := Ideal) x0 x1 x2 x3 x4 (ix4 b y x k))
          (headW (shapeCast S256x18 x7 shapeCasts_S1x1x256x18_S256x18) (shapeCast S256x36 x5 shapeCasts_S1x1x256x36_S256x36))
          (headB (shapeCast S1x18 x8 shapeCasts_S18_S1x18) (shapeCast S1x36 x6 shapeCasts_S36_S1x36)) 0 ch := by
  unfold result
  have hx := x.isLt
  have hy := y.isLt
  refine (shapeCast_apply _ _ _ (ix3 b ⟨64 * y.val + x.val, by omega⟩ ch) ?_).trans ?_
  · rw [Shape.rowMajor_val_three, Shape.rowMajor_val_five]
    show (b.val * 4096 + (64 * y.val + x.val)) * 54 + ch.val = (((b.val * 64 + y.val) * 64 + x.val) * 9 + a.val) * 6 + q.val
    omega
  · unfold flatOut imageOut
    exact head_congr (p := 64 * y.val + x.val) (fun k => kernel_features x0 x1 x2 x3 x4 b y x k) _ _ _

/-- The column of the score head's weights, under its flat index. -/
theorem cls_weight (k : Fin 256) (q : Fin 18) : shapeCast S256x18 x7 shapeCasts_S1x1x256x18_S256x18 (ix2 k q) = x7 (ix4 0 0 k q) := by
  refine shapeCast_apply _ _ _ _ ?_
  rw [Shape.rowMajor_val_two, Shape.rowMajor_val_four]
  show ((0 * 1 + 0) * 256 + k.val) * 18 + q.val = k.val * 18 + q.val
  omega

/-- The column of the box head's weights, under its flat index. -/
theorem reg_weight (k : Fin 256) (q : Fin 36) : shapeCast S256x36 x5 shapeCasts_S1x1x256x36_S256x36 (ix2 k q) = x5 (ix4 0 0 k q) := by
  refine shapeCast_apply _ _ _ _ ?_
  rw [Shape.rowMajor_val_two, Shape.rowMajor_val_four]
  show ((0 * 1 + 0) * 256 + k.val) * 36 + q.val = k.val * 36 + q.val
  omega

/-- The score head's bias, under its flat index. -/
theorem cls_bias (q : Fin 18) : shapeCast S1x18 x8 shapeCasts_S18_S1x18 (ix2 0 q) = x8 (ix1 q) := by
  refine shapeCast_apply _ _ _ _ ?_
  rw [Shape.rowMajor_val_one, Shape.rowMajor_val_two]
  show q.val = 0 * 18 + q.val
  omega

/-- The box head's bias, under its flat index. -/
theorem reg_bias (q : Fin 36) : shapeCast S1x36 x6 shapeCasts_S36_S1x36 (ix2 0 q) = x6 (ix1 q) := by
  refine shapeCast_apply _ _ _ _ ?_
  rw [Shape.rowMajor_val_one, Shape.rowMajor_val_two]
  show q.val = 0 * 36 + q.val
  omega

/-! ### The two agree -/

/-- A coordinate of a box. -/
theorem agree_box (b : Fin 2) (y x : Fin 64) (a : Fin 9) (q : Fin 6) (d : Fin 4) (h : q.val = d.val + 2) :
    result x0 x1 x2 x3 x4 x5 x6 x7 x8 (ix5 b y x a q) = val_main_v125 (F := Ideal) x0 x1 x2 x3 x4 x5 x6 x7 x8 (ix5 b y x a q) := by
  have hd := d.isLt
  have hv : (boxCh a d).val = 6 * a.val + 2 + d.val := rfl
  rw [joined_box x0 x1 x2 x3 x4 x5 x6 x7 x8 b y x a q d h, box_apply x0 x1 x2 x3 x4 x5 x6 b y x a d (regCol a d) rfl,
    result_apply x0 x1 x2 x3 x4 x5 x6 x7 x8 b y x a q (boxCh a d) (by omega)]
  unfold head
  rw [if_neg (by omega)]
  exact congrArg₂ (fun u v : EReal => u + v)
    (Finset.sum_congr rfl fun k _ => congrArg (fun v : EReal => _ * v) ((headW_box _ _ k a d).trans (reg_weight x5 k _)))
    ((headB_box _ _ a d).trans (reg_bias x6 _))

/-- A score. -/
theorem agree_score (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i))
    (b : Fin 2) (y x : Fin 64) (a : Fin 9) (q : Fin 6) (s : Fin 2) (h : q.val = s.val) :
    result x0 x1 x2 x3 x4 x5 x6 x7 x8 (ix5 b y x a q) = val_main_v125 (F := Ideal) x0 x1 x2 x3 x4 x5 x6 x7 x8 (ix5 b y x a q) := by
  have hs := s.isLt
  have hv : (scoreCh a s).val = 6 * a.val + s.val := rfl
  rw [joined_score x0 x1 x2 x3 x4 x5 x6 x7 x8 b y x a q s h,
    share_apply x0 x1 x2 x3 x4 x7 x8 (scores_real x0 x1 x2 x3 x4 x7 x8 h0 h1 h2 h3 h4 h7 h8),
    score_apply x0 x1 x2 x3 x4 x7 x8 b y x a s (clsCol a s) rfl,
    score_apply x0 x1 x2 x3 x4 x7 x8 b y x a (1 - s) (clsCol a (other s)) rfl,
    result_apply x0 x1 x2 x3 x4 x5 x6 x7 x8 b y x a q (scoreCh a s) (by omega)]
  unfold head
  rw [if_pos (by omega)]
  refine congrArg (fun v : EReal => Ideal.div 1 (1 + Ideal.exp (0 - v))) (Eq.trans ?_
    (affine_sub (fun k => val_main_v101 (F := Ideal) x0 x1 x2 x3 x4 (ix4 b y x k)) (fun k => x7 (ix4 0 0 k (clsCol a s)))
      (fun k => x7 (ix4 0 0 k (clsCol a (other s)))) (x8 (ix1 (clsCol a s))) (x8 (ix1 (clsCol a (other s))))
      (fun k => features_real x0 x1 x2 x3 x4 h0 h1 h2 h3 h4 b y x k) (fun k => h7 _) (fun k => h7 _) (h8 _) (h8 _)))
  exact congrArg₂ (fun u v : EReal => u + v)
    (Finset.sum_congr rfl fun k _ => congrArg (fun v : EReal => _ * v)
      ((headW_score _ _ k a s).trans (congrArg₂ (fun u v : EReal => u - v) (cls_weight x7 k _) (cls_weight x7 k _))))
    ((headB_score _ _ a s).trans (congrArg₂ (fun u v : EReal => u - v) (cls_bias x8 _) (cls_bias x8 _)))

/-- The kernel's result is the reference's. -/
theorem agree (h0 : ∀ i, IsReal (x0 i)) (h1 : ∀ i, IsReal (x1 i)) (h2 : ∀ i, IsReal (x2 i)) (h3 : ∀ i, IsReal (x3 i))
    (h4 : ∀ i, IsReal (x4 i)) (h7 : ∀ i, IsReal (x7 i)) (h8 : ∀ i, IsReal (x8 i)) :
    result x0 x1 x2 x3 x4 x5 x6 x7 x8 = val_main_v125 (F := Ideal) x0 x1 x2 x3 x4 x5 x6 x7 x8 := by
  funext i
  have e : i = ix5 (i 0) (i 1) (i 2) (i 3) (i 4) :=
    funext fun a => match a with | ⟨0, _⟩ => rfl | ⟨1, _⟩ => rfl | ⟨2, _⟩ => rfl | ⟨3, _⟩ => rfl | ⟨4, _⟩ => rfl
  rw [e]
  have hq : (i 4).val < 6 := (i 4).isLt
  by_cases h : (i 4).val < 2
  · exact agree_score x0 x1 x2 x3 x4 x5 x6 x7 x8 h0 h1 h2 h3 h4 h7 h8 (i 0) (i 1) (i 2) (i 3) (i 4) ⟨(i 4).val, h⟩ rfl
  · exact agree_box x0 x1 x2 x3 x4 x5 x6 x7 x8 (i 0) (i 1) (i 2) (i 3) (i 4) ⟨(i 4).val - 2, by omega⟩ (by show _ = (i 4).val - 2 + 2; omega)

end Cert.KernelIdeal.Own
-- ==== Proof.Finite.lean ====
module
public import proofs.«01_k».proof.Pre_finite
public import proofs.«01_k».proof.Proof.Reals
public import Idealize.ShloMosaic.Lib.ReduceAll

@[expose] public section

noncomputable section

/-! The precondition read back: the seven arguments it looks at hold real numbers only. -/

namespace Cert.Pre_finite.Own

open Idealize.ShloMosaic Cert.Pre_finite
open Cert.KernelIdeal.Own (IsReal)

/-- The relations between shapes that the precondition's operations take. -/
instance facts : Cert.Pre_finite.Facts := by constructor <;> decide

/-- The scalar shape has one index. -/
instance : Subsingleton S_.Idx := ⟨fun _ _ => funext fun a => a.elim0⟩

/-- A magnitude below plus infinity is a real's. -/
theorem real_of_below {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- One check of the precondition: every element is real. -/
theorem check {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : IsReal (x i) :=
  real_of_below (Host.reduce_andi_all _ _ h hu j e i)

/-- If the precondition holds, the first five and the last two of the nine arguments are real throughout. -/
theorem real_of_finite (x0 : FVec Ideal S2x64x64x256 .f32) (x1 : FVec Ideal S3x3x256x256 .f32) (x2 : FVec Ideal S256 .f32)
    (x3 : FVec Ideal S3x3x256x256 .f32) (x4 : FVec Ideal S256 .f32) (x5 : FVec Ideal S1x1x256x36 .f32) (x6 : FVec Ideal S36 .f32)
    (x7 : FVec Ideal S1x1x256x18 .f32) (x8 : FVec Ideal S18 .f32) (h : fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x7 i)) ∧ ∀ i, IsReal (x8 i) := by
  have e := congrFun h fun a => a.elim0
  obtain ⟨e, e8⟩ := IntOp.andi_eq_one.1 e
  obtain ⟨e, e7⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨check x0 _ _ _ _ e0, check x1 _ _ _ _ e1, check x2 _ _ _ _ e2, check x3 _ _ _ _ e3, check x4 _ _ _ _ e4,
    check x7 _ _ _ _ e7, check x8 _ _ _ _ e8⟩

end Cert.Pre_finite.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Match
public import proofs.«01_k».proof.Proof.Finite
public import Idealize.ShloMosaic.Adequacy
public import Idealize.ShloMosaic.Init

@[expose] public section

noncomputable section

/-! The certificate: the kernel, its ideal reading and the reference run, leave their arguments alone and end with every
    counter at zero; and the ideal reading's result is the reference's. -/

namespace Cert.Proof

open Idealize.ShloMosaic Idealize.SL.Sem

/-- The reference runs, leaves its arguments alone and ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments that the precondition holds of, the kernel's ideal reading and the reference end with equal
    results and unchanged arguments. -/
theorem algebraic : Cert.algebraic_KernelIdeal_ReferenceIdeal_pre_finite := by
  intro m ρ m' ρ' hpre hagree
  refine ⟨_, (θ_run Cert.KernelIdeal.defs _ _).mono (fun _ h c => ⟨h.1 c, h.2 c⟩)
    (θ_run_and (Cert.KernelIdeal.Own.run m ρ) (Cert.KernelIdeal.Gen.unchanged m ρ)), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  obtain ⟨r0, r1, r2, r3, r4, r7, r8⟩ := Cert.Pre_finite.Own.real_of_finite _ _ _ _ _ _ _ _ _ (hpre c)
  rw [Cert.ReferenceIdeal.Read.val_main_v125_eq]
  show Cert.ReferenceIdeal.Read.val_main_v125 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = _
  rw [a0, a1, a2, a3, a4, a5, a6, a7, a8]
  exact (Cert.KernelIdeal.Own.agree _ _ _ _ _ _ _ _ _ r0 r1 r2 r3 r4 r7 r8).symm

/-- Everything the certificate claims. -/
theorem claim : Cert.Claim := ⟨Cert.Kernel.Gen.facts, Cert.KernelIdeal.Gen.facts, Cert.ReferenceIdeal.Gen.facts, Cert.Pre_finite.Own.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
